-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v66_0)) (v1 : (c : Dev Cert.Kernel2Ideal.nD) → Buf (Elt Ideal) ((c.tc : Thread Cert.Kernel2Ideal.nD Cert.Kernel2Ideal.τ).loc Cert.Kernel2Ideal.main_v66_1)) (v2 : (c : Dev Cert.Kernel2Ideal.nD) → Buf (Elt Ideal) ((c.tc : Thread Cert.Kernel2Ideal.nD Cert.Kernel2Ideal.τ).loc Cert.Kernel2Ideal.main_v66_2)) (v3 : (c : Dev Cert.Kernel2Ideal.nD) → Buf (Elt Ideal) ((c.tc : Thread Cert.Kernel2Ideal.nD Cert.Kernel2Ideal.τ).loc Cert.Kernel2Ideal.main_v66_3)) (v4 : (c : Dev Cert.Kernel2Ideal.nD) → Buf (Elt Ideal) ((c.tc : Thread Cert.Kernel2Ideal.nD Cert.Kernel2Ideal.τ).loc Cert.Kernel2Ideal.main_v66_4)) (v5 : (c : Dev Cert.Kernel2Ideal.nD) → Buf (Elt Ideal) ((c.tc : Thread Cert.Kernel2Ideal.nD Cert.Kernel2Ideal.τ).loc Cert.Kernel2Ideal.main_v66_5)) (v6 : (c : Dev Cert.Kernel2Ideal.nD) → Buf (Elt Ideal) ((c.tc : Thread Cert.Kernel2Ideal.nD Cert.Kernel2Ideal.τ).loc Cert.Kernel2Ideal.main_v66_6)) (v7 : (c : Dev Cert.Kernel2Ideal.nD) → Buf (Elt Ideal) ((c.tc : Thread Cert.Kernel2Ideal.nD Cert.Kernel2Ideal.τ).loc Cert.Kernel2Ideal.main_v66_7)) (v8 : (c : Dev Cert.Kernel2Ideal.nD) → Buf (Elt Ideal) ((c.tc : Thread Cert.Kernel2Ideal.nD Cert.Kernel2Ideal.τ).loc Cert.Kernel2Ideal.main_v66_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v66_0) = v0 c
          ∧ r.2.mem ((c.tc : Thread Cert.Kernel2Ideal.nD Cert.Kernel2Ideal.τ).loc Cert.Kernel2Ideal.main_v66_1) = v1 c
          ∧ r.2.mem ((c.tc : Thread Cert.Kernel2Ideal.nD Cert.Kernel2Ideal.τ).loc Cert.Kernel2Ideal.main_v66_2) = v2 c
          ∧ r.2.mem ((c.tc : Thread Cert.Kernel2Ideal.nD Cert.Kernel2Ideal.τ).loc Cert.Kernel2Ideal.main_v66_3) = v3 c
          ∧ r.2.mem ((c.tc : Thread Cert.Kernel2Ideal.nD Cert.Kernel2Ideal.τ).loc Cert.Kernel2Ideal.main_v66_4) = v4 c
          ∧ r.2.mem ((c.tc : Thread Cert.Kernel2Ideal.nD Cert.Kernel2Ideal.τ).loc Cert.Kernel2Ideal.main_v66_5) = v5 c
          ∧ r.2.mem ((c.tc : Thread Cert.Kernel2Ideal.nD Cert.Kernel2Ideal.τ).loc Cert.Kernel2Ideal.main_v66_6) = v6 c
          ∧ r.2.mem ((c.tc : Thread Cert.Kernel2Ideal.nD Cert.Kernel2Ideal.τ).loc Cert.Kernel2Ideal.main_v66_7) = v7 c
          ∧ r.2.mem ((c.tc : Thread Cert.Kernel2Ideal.nD Cert.Kernel2Ideal.τ).loc Cert.Kernel2Ideal.main_v66_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v114) = v2 c
          ∧ r.2.mem ((c.tc : Thread Cert.Reference2Ideal.nD Cert.Reference2Ideal.τ).loc Cert.Reference2Ideal.main_v116) = v3 c
          ∧ r.2.mem ((c.tc : Thread Cert.Reference2Ideal.nD Cert.Reference2Ideal.τ).loc Cert.Reference2Ideal.main_v118) = v4 c
          ∧ r.2.mem ((c.tc : Thread Cert.Reference2Ideal.nD Cert.Reference2Ideal.τ).loc Cert.Reference2Ideal.main_v120) = v5 c
          ∧ r.2.mem ((c.tc : Thread Cert.Reference2Ideal.nD Cert.Reference2Ideal.τ).loc Cert.Reference2Ideal.main_v122) = v6 c
          ∧ r.2.mem ((c.tc : Thread Cert.Reference2Ideal.nD Cert.Reference2Ideal.τ).loc Cert.Reference2Ideal.main_v123) = v7 c
          ∧ r.2.mem ((c.tc : Thread Cert.Reference2Ideal.nD Cert.Reference2Ideal.τ).loc Cert.Reference2Ideal.main_v124) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v111) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S1024x8192 : Shape := ⟨2, ![1024, 8192]⟩
abbrev S1024x16384 : Shape := ⟨2, ![1024, 16384]⟩
abbrev S8x2048x2x512 : Shape := ⟨4, ![8, 2048, 2, 512]⟩
abbrev S8x2048x1x512 : Shape := ⟨4, ![8, 2048, 1, 512]⟩
abbrev S8x2048x512 : Shape := ⟨3, ![8, 2048, 512]⟩
abbrev S_ : Shape := ⟨0, ![]⟩

class Facts : Prop where
  bitsLt_bf16_f32 : FTy.bits .bf16 < FTy.bits .f32
  shapeCasts_S1024x16384_S8x2048x2x512 : S1024x16384.ShapeCasts S8x2048x2x512
  slices_S8x2048x2x512_S8x2048x1x512_0_0_0_0 : S8x2048x2x512.Slices ![0, 0, 0, 0] S8x2048x1x512
  shapeCasts_S8x2048x1x512_S8x2048x512 : S8x2048x1x512.ShapeCasts S8x2048x512
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_

variable [Facts]

def fn {F : FTy → Type} [FloatOps F] (main_arg0 : FVec F S1024x8192 .bf16) (main_arg1 : FVec F S1024x16384 .bf16) : IVec S_ 1 :=
  let main_v0 : FVec F S1024x16384 .f32 := (extf .f32 · bitsLt_bf16_f32) main_arg1
  let main_v1 : FVec F S8x2048x2x512 .f32 := shapeCast S8x2048x2x512 main_v0 shapeCasts_S1024x16384_S8x2048x2x512
  let main_v2 : FVec F S8x2048x1x512 .f32 := (extractStridedSlice S8x2048x1x512 ![0, 0, 0, 0] · slices_S8x2048x2x512_S8x2048x1x512_0_0_0_0) main_v1
  let main_v3 : FVec F S8x2048x512 .f32 := shapeCast S8x2048x512 main_v2 shapeCasts_S8x2048x1x512_S8x2048x512
  let main_v4 : FVec F S1024x8192 .f32 := (extf .f32 · bitsLt_bf16_f32) main_arg0
  let main_v5 : FVec F S1024x8192 .f32 := Host.absf main_v4
  let main_cst : FVec F S_ .f32 := constant S_ .f32 0x7F800000#32
  let main_v6 : FVec F S1024x8192 .f32 := broadcastInDim S1024x8192 ![] bcast_S_S1024x8192 main_cst
  let main_v7 : IVec S1024x8192 1 := cmpf .olt main_v5 main_v6
  let main_c : IVec S_ 1 := constantI S_ 1 1#1
  let main_v8 : IVec S_ 1 := (fun x v => Host.reduce IntOp.andi x v reducesTo_S1024x8192_S_d0_1 h_S_) main_v7 main_c
  let main_v9 : FVec F S8x2048x512 .f32 := Host.absf main_v3
  let main_cst_0 : FVec F S_ .f32 := constant S_ .f32 0x7F800000#32
  let main_v10 : FVec F S8x2048x512 .f32 := broadcastInDim S8x2048x512 ![] bcast_S_S8x2048x512 main_cst_0
  let main_v11 : IVec S8x2048x512 1 := cmpf .olt main_v9 main_v10
  let main_c_1 : IVec S_ 1 := constantI S_ 1 1#1
  let main_v12 : IVec S_ 1 := (fun x v => Host.reduce IntOp.andi x v reducesTo_S8x2048x512_S_d0_1_2 h_S_) main_v11 main_c_1
  let main_v13 : IVec S_ 1 := andi main_v8 main_v12
  main_v13
-- ==== Kernel.lean ====
abbrev S1024x8192 : Shape := ⟨2, ![1024, 8192]⟩
abbrev S1024x16384 : Shape := ⟨2, ![1024, 16384]⟩
abbrev S8x128x8192 : Shape := ⟨3, ![8, 128, 8192]⟩
abbrev S8x128x16384 : Shape := ⟨3, ![8, 128, 16384]⟩
abbrev S1x128x2048 : Shape := ⟨3, ![1, 128, 2048]⟩
abbrev S1x128x4096 : Shape := ⟨3, ![1, 128, 4096]⟩
abbrev S128x128 : Shape := ⟨2, ![128, 128]⟩
abbrev S1x128x512 : Shape := ⟨3, ![1, 128, 512]⟩
abbrev S128x512 : Shape := ⟨2, ![128, 512]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩

abbrev nBuf : Space → Nat
  | .hbm => 6
  | .vmem => 8
  | .smem => 0
  | _ => 0

abbrev bufTy : (tb : Table) → Fin (tcTables nBuf tb) → BufTy
  | .hbm, ⟨0, _⟩ => ⟨S1024x8192, .bf16⟩
  | .hbm, ⟨1, _⟩ => ⟨S1024x16384, .bf16⟩
  | .hbm, ⟨2, _⟩ => ⟨S8x128x8192, .bf16⟩
  | .hbm, ⟨3, _⟩ => ⟨S8x128x16384, .bf16⟩
  | .hbm, ⟨4, _⟩ => ⟨S8x128x8192, .f32⟩
  | .hbm, ⟨5, _⟩ => ⟨S8x128x8192, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S1024x8192 : Shape := ⟨2, ![1024, 8192]⟩
abbrev S1024x16384 : Shape := ⟨2, ![1024, 16384]⟩
abbrev S8x2048x8x64 : Shape := ⟨4, ![8, 2048, 8, 64]⟩
abbrev S8x2048x2x8x64 : Shape := ⟨5, ![8, 2048, 2, 8, 64]⟩
abbrev S8x2048x1x8x64 : Shape := ⟨5, ![8, 2048, 1, 8, 64]⟩
abbrev S2048 : Shape := ⟨1, ![2048]⟩
abbrev S2048x1 : Shape := ⟨2, ![2048, 1]⟩
abbrev S129 : Shape := ⟨1, ![129]⟩
abbrev S1x129 : Shape := ⟨2, ![1, 129]⟩
abbrev S_ : Shape := ⟨0, ![]⟩
abbrev S2048x129 : Shape := ⟨2, ![2048, 129]⟩
abbrev S2048x129x1 : Shape := ⟨3, ![2048, 129, 1]⟩
abbrev S8x2048x129x8x64 : Shape := ⟨5, ![8, 2048, 129, 8, 64]⟩
abbrev S8x8x2048x129 : Shape := ⟨4, ![8, 8, 2048, 129]⟩
abbrev S1x1x2048x129 : Shape := ⟨4, ![1, 1, 2048, 129]⟩
abbrev S8x8x2048 : Shape := ⟨3, ![8, 8, 2048]⟩
abbrev S8x8x2048x1 : Shape := ⟨4, ![8, 8, 2048, 1]⟩
abbrev S8x2048x8 : Shape := ⟨3, ![8, 2048, 8]⟩
abbrev S8x128x8192 : Shape := ⟨3, ![8, 128, 8192]⟩
abbrev S8x2048x8x1 : Shape := ⟨4, ![8, 2048, 8, 1]⟩

abbrev nBuf : Space → Nat
  | .hbm => 58
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S1024x16384, .bf16⟩
  | .hbm, ⟨2, _⟩ => ⟨S1024x8192, .f32⟩
  | .hbm, ⟨3, _⟩ => ⟨S8x2048x8x64, .f32⟩
  | .hbm, ⟨4, _⟩ => ⟨S1024x16384, .f32⟩
  | .hbm, ⟨5, _⟩ => ⟨S8x2048x2x8x64, .f32⟩
  | .hbm, ⟨6, _⟩ => ⟨S8x2048x1x8x64, .f32⟩
  | .hbm, ⟨7, _⟩ => ⟨S8x2048x8x64, .f32⟩
  | .hbm, ⟨8, _⟩ => ⟨S8x2048x1x8x64, .f32⟩
  | .hbm, ⟨9, _⟩ => ⟨S8x2048x8x64, .f32⟩
  | .hbm, ⟨10, _⟩ => ⟨S2048, .i32⟩
  | .hbm, ⟨11, _⟩ => ⟨S2048x1, .i32⟩
  | .hbm, ⟨12, _⟩ => ⟨S129, .i32⟩
  | .hbm, ⟨13, _⟩ => ⟨S1x129, .i32⟩
  | .hbm, ⟨14, _⟩ => ⟨S_, .i32⟩
  | .hbm, ⟨15, _⟩ => ⟨S1x129, .i32⟩
  | .hbm, ⟨16, _⟩ => ⟨S1x129, .i32⟩
  | .hbm, ⟨17, _⟩ => ⟨S2048x129, .i32⟩
  | .hbm, ⟨18, _⟩ => ⟨S2048x129, .i32⟩
  | .hbm, ⟨19, _⟩ => ⟨S2048x129, .i32⟩
  | .hbm, ⟨20, _⟩ => ⟨S_, .i32⟩
  | .hbm, ⟨21, _⟩ => ⟨S2048x129, .i32⟩
  | .hbm, ⟨22, _⟩ => ⟨S2048x129, .i1⟩
  | .hbm, ⟨23, _⟩ => ⟨S_, .i32⟩
  | .hbm, ⟨24, _⟩ => ⟨S2048x129, .i32⟩
  | .hbm, ⟨25, _⟩ => ⟨S2048x129, .i32⟩
  | .hbm, ⟨26, _⟩ => ⟨S2048x129x1, .i32⟩
  | .hbm, ⟨27, _⟩ => ⟨S8x2048x129x8x64, .f32⟩
  | .hbm, ⟨28, _⟩ => ⟨S2048x129x1, .i32⟩
  | .hbm, ⟨29, _⟩ => ⟨S8x2048x129x8x64, .f32⟩
  | .hbm, ⟨30, _⟩ => ⟨S8x8x2048x129, .f32⟩
  | .hbm, ⟨31, _⟩ => ⟨S1x1x2048x129, .i1⟩
  | .hbm, ⟨32, _⟩ => ⟨S_, .f32⟩
  | .hbm, ⟨33, _⟩ => ⟨S_, .f32⟩
  | .hbm, ⟨34, _⟩ => ⟨S8x8x2048x129, .i1⟩
  | .hbm, ⟨35, _⟩ => ⟨S8x8x2048x129, .f32⟩
  | .hbm, ⟨36, _⟩ => ⟨S8x8x2048x129, .f32⟩
  | .hbm, ⟨37, _⟩ => ⟨S_, .f32⟩
  | .hbm, ⟨38, _⟩ => ⟨S8x8x2048, .f32⟩
  | .hbm, ⟨39, _⟩ => ⟨S8x8x2048x1, .f32⟩
  | .hbm, ⟨40, _⟩ => ⟨S8x8x2048x129, .f32⟩
  | .hbm, ⟨41, _⟩ => ⟨S8x8x2048x129, .f32⟩
  | .hbm, ⟨42, _⟩ => ⟨S8x8x2048x129, .f32⟩
  | .hbm, ⟨43, _⟩ => ⟨S_, .f32⟩
  | .hbm, ⟨44, _⟩ => ⟨S8x8x2048, .f32⟩
  | .hbm, ⟨45, _⟩ => ⟨S8x8x2048x1, .f32⟩
  | .hbm, ⟨46, _⟩ => ⟨S8x8x2048x1, .f32⟩
  | .hbm, ⟨47, _⟩ => ⟨S8x8x2048x1, .f32⟩
  | .hbm, ⟨48, _⟩ => ⟨S8x8x2048x129, .f32⟩
  | .hbm, ⟨49, _⟩ => ⟨S8x8x2048x129, .f32⟩
  | .hbm, ⟨50, _⟩ => ⟨S8x8x2048x129, .f32⟩
  | .hbm, ⟨51, _⟩ => ⟨S8x2048x8x64, .f32⟩
  | .hbm, ⟨52, _⟩ => ⟨S8x8x2048, .f32⟩
  | .hbm, ⟨53, _⟩ => ⟨S8x2048x8, .f32⟩
  | .hbm, ⟨54, _⟩ => ⟨S8x128x8192, .f32⟩
  | .hbm, ⟨55, _⟩ => ⟨S8x2048x8x1, .f32⟩
  | .hbm, ⟨56, _⟩ => ⟨S8x2048x8x64, .f32⟩
  | .hbm, ⟨57, _⟩ => ⟨S8x128x8192, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_v21 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x7168 : Shape := ⟨3, ![1, 1024, 7168]⟩
abbrev S1 : Shape := ⟨1, ![1]⟩
abbrev S16384x1024 : Shape := ⟨2, ![16384, 1024]⟩
abbrev S1024 : Shape := ⟨1, ![1024]⟩
abbrev S1024x7168 : Shape := ⟨2, ![1024, 7168]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8x1 : Shape := ⟨2, ![8, 1]⟩
abbrev S1x2048 : Shape := ⟨2, ![1, 2048]⟩
abbrev S8x2048 : Shape := ⟨2, ![8, 2048]⟩
abbrev S1024x1536 : Shape := ⟨2, ![1024, 1536]⟩
abbrev S1536x1024 : Shape := ⟨2, ![1536, 1024]⟩
abbrev S3x512x1024 : Shape := ⟨3, ![3, 512, 1024]⟩
abbrev S1x1 : Shape := ⟨2, ![1, 1]⟩
abbrev S1x512x1024 : Shape := ⟨3, ![1, 512, 1024]⟩
abbrev S2x512x1024 : Shape := ⟨3, ![2, 512, 1024]⟩
abbrev S16384x512 : Shape := ⟨2, ![16384, 512]⟩
abbrev S4096x2048 : Shape := ⟨2, ![4096, 2048]⟩
abbrev S1024x8192 : Shape := ⟨2, ![1024, 8192]⟩
abbrev S4096x4096 : Shape := ⟨2, ![4096, 4096]⟩
abbrev S1024x16384 : Shape := ⟨2, ![1024, 16384]⟩
abbrev S8x2x512x2048 : Shape := ⟨4, ![8, 2, 512, 2048]⟩
abbrev S16384x2048 : Shape := ⟨2, ![16384, 2048]⟩
abbrev S256x1024 : Shape := ⟨2, ![256, 1024]⟩
abbrev S256x128 : Shape := ⟨2, ![256, 128]⟩
abbrev S8x256 : Shape := ⟨2, ![8, 256]⟩
abbrev S256x512 : Shape := ⟨2, ![256, 512]⟩
abbrev S64x2048 : Shape := ⟨2, ![64, 2048]⟩
abbrev S16x8192 : Shape := ⟨2, ![16, 8192]⟩
abbrev S64x4096 : Shape := ⟨2, ![64, 4096]⟩
abbrev S16x16384 : Shape := ⟨2, ![16, 16384]⟩
abbrev S1x2x512x256 : Shape := ⟨4, ![1, 2, 512, 256]⟩
abbrev S256x2048 : Shape := ⟨2, ![256, 2048]⟩
abbrev S4x256x128 : Shape := ⟨3, ![4, 256, 128]⟩
abbrev S256 : Shape := ⟨1, ![256]⟩
abbrev S256x1 : Shape := ⟨2, ![256, 1]⟩
abbrev S1024x512 : Shape := ⟨2, ![1024, 512]⟩
abbrev S1x256x128 : Shape := ⟨3, ![1, 256, 128]⟩
abbrev S1x64x128 : Shape := ⟨3, ![1, 64, 128]⟩
abbrev S64x128 : Shape := ⟨2, ![64, 128]⟩
abbrev S64x512 : Shape := ⟨2, ![64, 512]⟩
abbrev S1x16x128 : Shape := ⟨3, ![1, 16, 128]⟩
abbrev S16x128 : Shape := ⟨2, ![16, 128]⟩
abbrev S16x512 : Shape := ⟨2, ![16, 512]⟩
abbrev S512x1024 : Shape := ⟨2, ![512, 1024]⟩
abbrev S512x256 : Shape := ⟨2, ![512, 256]⟩
abbrev S48x256 : Shape := ⟨2, ![48, 256]⟩
abbrev S1x1x512x256 : Shape := ⟨4, ![1, 1, 512, 256]⟩

abbrev nBuf : Space → Nat
  | .hbm => 90
  | .vmem => 37
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7168, .f32⟩
  | .hbm, ⟨3, _⟩ => ⟨S1, .i32⟩
  | .hbm, ⟨4, _⟩ => ⟨S1, .i32⟩
  | .hbm, ⟨5, _⟩ => ⟨S16384x1024, .f32⟩
  | .hbm, ⟨6, _⟩ => ⟨S1024, .f32⟩
  | .hbm, ⟨7, _⟩ => ⟨S1024x7168, .f32⟩
  | .hbm, ⟨8, _⟩ => ⟨S1024x7168, .bf16⟩
  | .hbm, ⟨9, _⟩ => ⟨S2048, .i32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S2048, .f32⟩
  | .hbm, ⟨19, _⟩ => ⟨S2048x1, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048x48, .f32⟩
  | .hbm, ⟨28, _⟩ => ⟨S2048x64, .f32⟩
  | .hbm, ⟨29, _⟩ => ⟨S2048x8, .f32⟩
  | .hbm, ⟨30, _⟩ => ⟨S_, .f32⟩
  | .hbm, ⟨31, _⟩ => ⟨S2048x48, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8x1, .f32⟩
  | .hbm, ⟨48, _⟩ => ⟨S2048, .f32⟩
  | .hbm, ⟨49, _⟩ => ⟨S1x2048, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S1024x1536, .bf16⟩
  | .hbm, ⟨56, _⟩ => ⟨S1536x1024, .bf16⟩
  | .hbm, ⟨57, _⟩ => ⟨S3x512x1024, .bf16⟩
  | .hbm, ⟨58, _⟩ => ⟨S1024x1536, .bf16⟩
  | .hbm, ⟨59, _⟩ => ⟨S1536x1024, .bf16⟩
  | .hbm, ⟨60, _⟩ => ⟨S3x512x1024, .bf16⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S1, .i32⟩
  | .hbm, ⟨68, _⟩ => ⟨S1x1, .i32⟩
  | .hbm, ⟨69, _⟩ => ⟨S1x512x1024, .bf16⟩
  | .hbm, ⟨70, _⟩ => ⟨S_, .i32⟩
  | .hbm, ⟨71, _⟩ => ⟨S1, .i32⟩
  | .hbm, ⟨72, _⟩ => ⟨S1, .i1⟩
  | .hbm, ⟨73, _⟩ => ⟨S_, .i32⟩
  | .hbm, ⟨74, _⟩ => ⟨S1, .i32⟩
  | .hbm, ⟨75, _⟩ => ⟨S1, .i32⟩
  | .hbm, ⟨76, _⟩ => ⟨S1, .i32⟩
  | .hbm, ⟨77, _⟩ => ⟨S1x1, .i32⟩
  | .hbm, ⟨78, _⟩ => ⟨S1x512x1024, .bf16⟩
  | .hbm, ⟨79, _⟩ => ⟨S2x512x1024, .bf16⟩
  | .hbm, ⟨80, _⟩ => ⟨S1x1024, .f32⟩
  | .hbm, ⟨81, _⟩ => ⟨S16384x512, .bf16⟩
  | .hbm, ⟨82, _⟩ => ⟨S4096x2048, .bf16⟩
  | .hbm, ⟨83, _⟩ => ⟨S1024x8192, .bf16⟩
  | .hbm, ⟨84, _⟩ => ⟨S16384x1024, .bf16⟩
  | .hbm, ⟨85, _⟩ => ⟨S4096x4096, .bf16⟩
  | .hbm, ⟨86, _⟩ => ⟨S1024x16384, .bf16⟩
  | .hbm, ⟨87, _⟩ => ⟨S8x2x512x2048, .f32⟩
  | .hbm, ⟨88, _⟩ => ⟨S16384x512, .f32⟩
  | .hbm, ⟨89, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S2x512x1024, .bf16⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S256x512, .bf16⟩
  | .local _ .vmem, ⟨14, _⟩ => ⟨S256x512, .bf16⟩
  | .local _ .vmem, ⟨15, _⟩ => ⟨S64x2048, .bf16⟩
  | .local _ .vmem, ⟨16, _⟩ => ⟨S64x2048, .bf16⟩
  | .local _ .vmem, ⟨17, _⟩ => ⟨S16x8192, .bf16⟩
  | .local _ .vmem, ⟨18, _⟩ => ⟨S16x8192, .bf16⟩
  | .local _ .vmem, ⟨19, _⟩ => ⟨S256x1024, .bf16⟩
  | .local _ .vmem, ⟨20, _⟩ => ⟨S256x1024, .bf16⟩
  | .local _ .vmem, ⟨21, _⟩ => ⟨S64x4096, .bf16⟩
  | .local _ .vmem, ⟨22, _⟩ => ⟨S64x4096, .bf16⟩
  | .local _ .vmem, ⟨23, _⟩ => ⟨S16x16384, .bf16⟩
  | .local _ .vmem, ⟨24, _⟩ => ⟨S16x16384, .bf16⟩
  | .local _ .vmem, ⟨25, _⟩ => ⟨S1x2x512x256, .f32⟩
  | .local _ .vmem, ⟨26, _⟩ => ⟨S1x2x512x256, .f32⟩
  | .local _ .vmem, ⟨27, _⟩ => ⟨S256x512, .f32⟩
  | .local _ .vmem, ⟨28, _⟩ => ⟨S256x512, .f32⟩
  | .local _ .vmem, ⟨29, _⟩ => ⟨S256x2048, .f32⟩
  | .local _ .vmem, ⟨30, _⟩ => ⟨S256x2048, .f32⟩
  | .local _ .vmem, ⟨31, _⟩ => ⟨S4x256x128, .f32⟩
  | .local _ .vmem, ⟨32, _⟩ => ⟨S4x256x128, .f32⟩
  | .local _ .vmem, ⟨33, _⟩ => ⟨S4x256x128, .f32⟩
  | .local _ .vmem, ⟨34, _⟩ => ⟨S4x256x128, .f32⟩
  | .local _ .vmem, ⟨35, _⟩ => ⟨S4x256x128, .f32⟩
  | .local _ .vmem, ⟨36, _⟩ => ⟨S4x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_c_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_8 : Ref sig .tc := ⟨.hbm, 70, rfl⟩
abbrev main_v57 : Ref sig .tc := ⟨.hbm, 71, rfl⟩
abbrev main_v58 : Ref sig .tc := ⟨.hbm, 72, rfl⟩
abbrev main_c_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66_0 : Ref sig .tc := ⟨.hbm, 81, rfl⟩
abbrev main_v66_1 : Ref sig .tc := ⟨.hbm, 82, rfl⟩
abbrev main_v66_2 : Ref sig .tc := ⟨.hbm, 83, rfl⟩
abbrev main_v66_3 : Ref sig .tc := ⟨.hbm, 84, rfl⟩
abbrev main_v66_4 : Ref sig .tc := ⟨.hbm, 85, rfl⟩
abbrev main_v66_5 : Ref sig .tc := ⟨.hbm, 86, rfl⟩
abbrev main_v66_6 : Ref sig .tc := ⟨.hbm, 87, rfl⟩
abbrev main_v66_7 : Ref sig .tc := ⟨.hbm, 88, rfl⟩
abbrev main_v66_8 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x16384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8x2048x1024 : Shape := ⟨3, ![8, 2048, 1024]⟩
abbrev S1x1024 : Shape := ⟨2, ![1, 1024]⟩
abbrev S1x1024x7168 : Shape := ⟨3, ![1, 1024, 7168]⟩
abbrev S2048 : Shape := ⟨1, ![2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7168 : Shape := ⟨2, ![1024, 7168]⟩
abbrev S8x2048x7168 : Shape := ⟨3, ![8, 2048, 7168]⟩
abbrev S8x2048x1536 : Shape := ⟨3, ![8, 2048, 1536]⟩
abbrev S8x2048x512 : Shape := ⟨3, ![8, 2048, 512]⟩
abbrev S8x2048x2048 : Shape := ⟨3, ![8, 2048, 2048]⟩
abbrev S8x2048x24x64 : Shape := ⟨4, ![8, 2048, 24, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x24x8 : Shape := ⟨4, ![8, 2048, 24, 8]⟩
abbrev S8x2048x24x48 : Shape := ⟨4, ![8, 2048, 24, 48]⟩
abbrev S8x2048x8x64 : Shape := ⟨4, ![8, 2048, 8, 64]⟩
abbrev S8x2048x1x8x64 : Shape := ⟨5, ![8, 2048, 1, 8, 64]⟩
abbrev S8x2048x2x8x64 : Shape := ⟨5, ![8, 2048, 2, 8, 64]⟩
abbrev S16384x512 : Shape := ⟨2, ![16384, 512]⟩
abbrev S4096x2048 : Shape := ⟨2, ![4096, 2048]⟩
abbrev S1024x8192 : Shape := ⟨2, ![1024, 8192]⟩
abbrev S16384x1024 : Shape := ⟨2, ![16384, 1024]⟩
abbrev S4096x4096 : Shape := ⟨2, ![4096, 4096]⟩
abbrev S1024x16384 : Shape := ⟨2, ![1024, 16384]⟩
abbrev S8x2048x2x512 : Shape := ⟨4, ![8, 2048, 2, 512]⟩
abbrev S8x2x512x2048 : Shape := ⟨4, ![8, 2, 512, 2048]⟩
abbrev S16384x2048 : Shape := ⟨2, ![16384, 2048]⟩

abbrev nBuf : Space → Nat
  | .hbm => 138
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x7168, .f32⟩
  | 3 => ⟨S2048, .i32⟩
  | 4 => ⟨S1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S1024x7168, .f32⟩
  | 22 => ⟨S8x2048x7168, .f32⟩
  | 23 => ⟨S8x2048x1536, .f32⟩
  | 24 => ⟨S8x2048x1536, .f32⟩
  | 25 => ⟨S8x2048x1536, .f32⟩
  | 26 => ⟨S8x2048x512, .f32⟩
  | 27 => ⟨S8x2048x2048, .f32⟩
  | 28 => ⟨S8x2048x24x64, .f32⟩
  | 29 => ⟨S8, .f32⟩
  | 30 => ⟨S_, .f32⟩
  | 31 => ⟨S8, .f32⟩
  | 32 => ⟨S8, .f32⟩
  | 33 => ⟨S8, .f32⟩
  | 34 => ⟨S_, .f32⟩
  | 35 => ⟨S8, .f32⟩
  | 36 => ⟨S8, .f32⟩
  | 37 => ⟨S2048, .f32⟩
  | 38 => ⟨S2048x1, .f32⟩
  | 39 => ⟨S1x8, .f32⟩
  | 40 => ⟨S2048x8, .f32⟩
  | 41 => ⟨S2048x8, .f32⟩
  | 42 => ⟨S2048x8, .f32⟩
  | 43 => ⟨S2048x8, .f32⟩
  | 44 => ⟨S1x2048x1x8, .f32⟩
  | 45 => ⟨S2048x8, .f32⟩
  | 46 => ⟨S1x2048x1x8, .f32⟩
  | 47 => ⟨S8x2048x24x8, .f32⟩
  | 48 => ⟨S8x2048x24x8, .f32⟩
  | 49 => ⟨S8x2048x24x8, .f32⟩
  | 50 => ⟨S8x2048x24x8, .f32⟩
  | 51 => ⟨S8x2048x24x8, .f32⟩
  | 52 => ⟨S8x2048x24x8, .f32⟩
  | 53 => ⟨S8x2048x24x8, .f32⟩
  | 54 => ⟨S8x2048x24x8, .f32⟩
  | 55 => ⟨S8x2048x24x8, .f32⟩
  | 56 => ⟨S8x2048x24x8, .f32⟩
  | 57 => ⟨S8x2048x24x8, .f32⟩
  | 58 => ⟨S8x2048x24x8, .f32⟩
  | 59 => ⟨S8x2048x24x48, .f32⟩
  | 60 => ⟨S8x2048x24x64, .f32⟩
  | 61 => ⟨S8x2048x24x64, .f32⟩
  | 62 => ⟨S8, .f32⟩
  | 63 => ⟨S_, .f32⟩
  | 64 => ⟨S8, .f32⟩
  | 65 => ⟨S8, .f32⟩
  | 66 => ⟨S8, .f32⟩
  | 67 => ⟨S_, .f32⟩
  | 68 => ⟨S8, .f32⟩
  | 69 => ⟨S8, .f32⟩
  | 70 => ⟨S2048, .f32⟩
  | 71 => ⟨S2048x1, .f32⟩
  | 72 => ⟨S1x8, .f32⟩
  | 73 => ⟨S2048x8, .f32⟩
  | 74 => ⟨S2048x8, .f32⟩
  | 75 => ⟨S2048x8, .f32⟩
  | 76 => ⟨S2048x8, .f32⟩
  | 77 => ⟨S1x2048x1x8, .f32⟩
  | 78 => ⟨S2048x8, .f32⟩
  | 79 => ⟨S1x2048x1x8, .f32⟩
  | 80 => ⟨S8x2048x24x8, .f32⟩
  | 81 => ⟨S8x2048x24x8, .f32⟩
  | 82 => ⟨S8x2048x24x8, .f32⟩
  | 83 => ⟨S8x2048x24x8, .f32⟩
  | 84 => ⟨S8x2048x24x8, .f32⟩
  | 85 => ⟨S8x2048x24x8, .f32⟩
  | 86 => ⟨S8x2048x24x8, .f32⟩
  | 87 => ⟨S8x2048x24x8, .f32⟩
  | 88 => ⟨S8x2048x24x8, .f32⟩
  | 89 => ⟨S8x2048x24x8, .f32⟩
  | 90 => ⟨S8x2048x24x8, .f32⟩
  | 91 => ⟨S8x2048x24x8, .f32⟩
  | 92 => ⟨S8x2048x24x48, .f32⟩
  | 93 => ⟨S8x2048x24x64, .f32⟩
  | 94 => ⟨S8x2048x24x64, .f32⟩
  | 95 => ⟨S8x2048x8x64, .f32⟩
  | 96 => ⟨S_, .f32⟩
  | 97 => ⟨S8x2048x8x64, .f32⟩
  | 98 => ⟨S8x2048x8x64, .f32⟩
  | 99 => ⟨S8x2048x8x64, .f32⟩
  | 100 => ⟨S_, .f32⟩
  | 101 => ⟨S8x2048x8x64, .f32⟩
  | 102 => ⟨S8x2048x8x64, .f32⟩
  | 103 => ⟨S8x2048x8x64, .f32⟩
  | 104 => ⟨S_, .f32⟩
  | 105 => ⟨S8x2048x8x64, .f32⟩
  | 106 => ⟨S8x2048x8x64, .f32⟩
  | 107 => ⟨S8x2048x8x64, .f32⟩
  | 108 => ⟨S8x2048x8x64, .f32⟩
  | 109 => ⟨S8x2048x1x8x64, .f32⟩
  | 110 => ⟨S8x2048x1x8x64, .f32⟩
  | 111 => ⟨S8x2048x2x8x64, .f32⟩
  | 112 => ⟨S8x2048x8x64, .f32⟩
  | 113 => ⟨S8x2048x8x64, .f32⟩
  | 114 => ⟨S8x2048x1x8x64, .f32⟩
  | 115 => ⟨S8x2048x1x8x64, .f32⟩
  | 116 => ⟨S8x2048x2x8x64, .f32⟩
  | 117 => ⟨S8x2048x8x64, .f32⟩
  | 118 => ⟨S8x2048x8x64, .f32⟩
  | 119 => ⟨S8x2048x1x8x64, .f32⟩
  | 120 => ⟨S8x2048x1x8x64, .f32⟩
  | 121 => ⟨S8x2048x2x8x64, .f32⟩
  | 122 => ⟨S8x2048x8x64, .bf16⟩
  | 123 => ⟨S16384x512, .bf16⟩
  | 124 => ⟨S8x2048x8x64, .bf16⟩
  | 125 => ⟨S4096x2048, .bf16⟩
  | 126 => ⟨S8x2048x8x64, .bf16⟩
  | 127 => ⟨S1024x8192, .bf16⟩
  | _ => ⟨S8x2048x1024, .f32⟩

abbrev hbmTy0_1 (i : Nat) : BufTy := match i % 128 with
  | 0 => ⟨S8x2048x2x8x64, .bf16⟩
  | 1 => ⟨S16384x1024, .bf16⟩
  | 2 => ⟨S8x2048x2x8x64, .bf16⟩
  | 3 => ⟨S4096x4096, .bf16⟩
  | 4 => ⟨S8x2048x2x8x64, .bf16⟩
  | 5 => ⟨S1024x16384, .bf16⟩
  | 6 => ⟨S8x2048x2x512, .f32⟩
  | 7 => ⟨S8x2x512x2048, .f32⟩
  | 8 => ⟨S16384x512, .f32⟩
  | 9 => ⟨S16384x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x7168 : Shape := ⟨3, ![1, 1024, 7168]⟩
abbrev S16384x1024 : Shape := ⟨2, ![16384, 1024]⟩
abbrev S1024 : Shape := ⟨1, ![1024]⟩
abbrev S1024x7168 : Shape := ⟨2, ![1024, 7168]⟩
abbrev S2048 : Shape := ⟨1, ![2048]⟩
abbrev S8 : Shape := ⟨1, ![8]⟩
abbrev S_ : Shape := ⟨0, ![]⟩
abbrev S8x1 : Shape := ⟨2, ![8, 1]⟩
abbrev S1x2048 : Shape := ⟨2, ![1, 2048]⟩
abbrev S8x2048 : Shape := ⟨2, ![8, 2048]⟩
abbrev S1024x1536 : Shape := ⟨2, ![1024, 1536]⟩
abbrev S1536x1024 : Shape := ⟨2, ![1536, 1024]⟩
abbrev S3x512x1024 : Shape := ⟨3, ![3, 512, 1024]⟩
abbrev S8x2x512x128 : Shape := ⟨4, ![8, 2, 512, 128]⟩
abbrev S128x1024 : Shape := ⟨2, ![128, 1024]⟩
abbrev S1x512x1024 : Shape := ⟨3, ![1, 512, 1024]⟩
abbrev S8x128 : Shape := ⟨2, ![8, 128]⟩
abbrev S1x2x512x128 : Shape := ⟨4, ![1, 2, 512, 128]⟩
abbrev S128 : Shape := ⟨1, ![128]⟩
abbrev S128x1 : Shape := ⟨2, ![128, 1]⟩
abbrev S512x1024 : Shape := ⟨2, ![512, 1024]⟩
abbrev S512x128 : Shape := ⟨2, ![512, 128]⟩
abbrev S48x128 : Shape := ⟨2, ![48, 128]⟩
abbrev S1x1x512x128 : Shape := ⟨4, ![1, 1, 512, 128]⟩

abbrev nBuf : Space → Nat
  | .hbm => 32
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7168, .f32⟩
  | .hbm, ⟨3, _⟩ => ⟨S16384x1024, .f32⟩
  | .hbm, ⟨4, _⟩ => ⟨S1024, .f32⟩
  | .hbm, ⟨5, _⟩ => ⟨S1024x7168, .f32⟩
  | .hbm, ⟨6, _⟩ => ⟨S1024x7168, .bf16⟩
  | .hbm, ⟨7, _⟩ => ⟨S2048, .i32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8x1, .f32⟩
  | .hbm, ⟨17, _⟩ => ⟨S2048, .f32⟩
  | .hbm, ⟨18, _⟩ => ⟨S1x2048, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S1024x1536, .bf16⟩
  | .hbm, ⟨25, _⟩ => ⟨S1536x1024, .bf16⟩
  | .hbm, ⟨26, _⟩ => ⟨S3x512x1024, .bf16⟩
  | .hbm, ⟨27, _⟩ => ⟨S1024x1536, .bf16⟩
  | .hbm, ⟨28, _⟩ => ⟨S1536x1024, .bf16⟩
  | .hbm, ⟨29, _⟩ => ⟨S3x512x1024, .bf16⟩
  | .hbm, ⟨30, _⟩ => ⟨S1x1024, .f32⟩
  | .hbm, ⟨31, _⟩ => ⟨S8x2x512x128, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x512x1024, .bf16⟩
  | .local _ .vmem, ⟨4, _⟩ => ⟨S1x512x1024, .bf16⟩
  | .local _ .vmem, ⟨5, _⟩ => ⟨S8x128, .f32⟩
  | .local _ .vmem, ⟨6, _⟩ => ⟨S8x128, .f32⟩
  | .local _ .vmem, ⟨7, _⟩ => ⟨S1x2x512x128, .f32⟩
  | .local _ .vmem, ⟨8, _⟩ => ⟨S1x2x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.addi v0 c15_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x2048x1024 : Shape := ⟨3, ![8, 2048, 1024]⟩
abbrev S1x1024 : Shape := ⟨2, ![1, 1024]⟩
abbrev S1x1024x7168 : Shape := ⟨3, ![1, 1024, 7168]⟩
abbrev S2048 : Shape := ⟨1, ![2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7168 : Shape := ⟨2, ![1024, 7168]⟩
abbrev S8x2048x7168 : Shape := ⟨3, ![8, 2048, 7168]⟩
abbrev S8x2048x1536 : Shape := ⟨3, ![8, 2048, 1536]⟩
abbrev S8x2048x512 : Shape := ⟨3, ![8, 2048, 512]⟩
abbrev S8x2048x2048 : Shape := ⟨3, ![8, 2048, 2048]⟩
abbrev S8x2048x24x64 : Shape := ⟨4, ![8, 2048, 24, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x24x8 : Shape := ⟨4, ![8, 2048, 24, 8]⟩
abbrev S8x2048x24x48 : Shape := ⟨4, ![8, 2048, 24, 48]⟩
abbrev S8x2048x8x64 : Shape := ⟨4, ![8, 2048, 8, 64]⟩
abbrev S8x2048x1x8x64 : Shape := ⟨5, ![8, 2048, 1, 8, 64]⟩
abbrev S8x2048x2x8x64 : Shape := ⟨5, ![8, 2048, 2, 8, 64]⟩
abbrev S8x2048x2x512 : Shape := ⟨4, ![8, 2048, 2, 512]⟩
abbrev S8x128x2x512 : Shape := ⟨4, ![8, 128, 2, 512]⟩
abbrev S8x2x512x128 : Shape := ⟨4, ![8, 2, 512, 128]⟩

abbrev nBuf : Space → Nat
  | .hbm => 125
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7168, .f32⟩
  | .hbm, ⟨3, _⟩ => ⟨S2048, .i32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x7168, .f32⟩
  | .hbm, ⟨22, _⟩ => ⟨S8x2048x7168, .f32⟩
  | .hbm, ⟨23, _⟩ => ⟨S8x2048x1536, .f32⟩
  | .hbm, ⟨24, _⟩ => ⟨S8x2048x1536, .f32⟩
  | .hbm, ⟨25, _⟩ => ⟨S8x2048x1536, .f32⟩
  | .hbm, ⟨26, _⟩ => ⟨S8x2048x512, .f32⟩
  | .hbm, ⟨27, _⟩ => ⟨S8x2048x2048, .f32⟩
  | .hbm, ⟨28, _⟩ => ⟨S8x2048x24x64, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S2048, .f32⟩
  | .hbm, ⟨38, _⟩ => ⟨S2048x1, .f32⟩
  | .hbm, ⟨39, _⟩ => ⟨S1x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S1x2048x1x8, .f32⟩
  | .hbm, ⟨45, _⟩ => ⟨S2048x8, .f32⟩
  | .hbm, ⟨46, _⟩ => ⟨S1x2048x1x8, .f32⟩
  | .hbm, ⟨47, _⟩ => ⟨S8x2048x24x8, .f32⟩
  | .hbm, ⟨48, _⟩ => ⟨S8x2048x24x8, .f32⟩
  | .hbm, ⟨49, _⟩ => ⟨S8x2048x24x8, .f32⟩
  | .hbm, ⟨50, _⟩ => ⟨S8x2048x24x8, .f32⟩
  | .hbm, ⟨51, _⟩ => ⟨S8x2048x24x8, .f32⟩
  | .hbm, ⟨52, _⟩ => ⟨S8x2048x24x8, .f32⟩
  | .hbm, ⟨53, _⟩ => ⟨S8x2048x24x8, .f32⟩
  | .hbm, ⟨54, _⟩ => ⟨S8x2048x24x8, .f32⟩
  | .hbm, ⟨55, _⟩ => ⟨S8x2048x24x8, .f32⟩
  | .hbm, ⟨56, _⟩ => ⟨S8x2048x24x8, .f32⟩
  | .hbm, ⟨57, _⟩ => ⟨S8x2048x24x8, .f32⟩
  | .hbm, ⟨58, _⟩ => ⟨S8x2048x24x8, .f32⟩
  | .hbm, ⟨59, _⟩ => ⟨S8x2048x24x48, .f32⟩
  | .hbm, ⟨60, _⟩ => ⟨S8x2048x24x64, .f32⟩
  | .hbm, ⟨61, _⟩ => ⟨S8x2048x24x64, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S2048, .f32⟩
  | .hbm, ⟨71, _⟩ => ⟨S2048x1, .f32⟩
  | .hbm, ⟨72, _⟩ => ⟨S1x8, .f32⟩
  | .hbm, ⟨73, _⟩ => ⟨S2048x8, .f32⟩
  | .hbm, ⟨74, _⟩ => ⟨S2048x8, .f32⟩
  | .hbm, ⟨75, _⟩ => ⟨S2048x8, .f32⟩
  | .hbm, ⟨76, _⟩ => ⟨S2048x8, .f32⟩
  | .hbm, ⟨77, _⟩ => ⟨S1x2048x1x8, .f32⟩
  | .hbm, ⟨78, _⟩ => ⟨S2048x8, .f32⟩
  | .hbm, ⟨79, _⟩ => ⟨S1x2048x1x8, .f32⟩
  | .hbm, ⟨80, _⟩ => ⟨S8x2048x24x8, .f32⟩
  | .hbm, ⟨81, _⟩ => ⟨S8x2048x24x8, .f32⟩
  | .hbm, ⟨82, _⟩ => ⟨S8x2048x24x8, .f32⟩
  | .hbm, ⟨83, _⟩ => ⟨S8x2048x24x8, .f32⟩
  | .hbm, ⟨84, _⟩ => ⟨S8x2048x24x8, .f32⟩
  | .hbm, ⟨85, _⟩ => ⟨S8x2048x24x8, .f32⟩
  | .hbm, ⟨86, _⟩ => ⟨S8x2048x24x8, .f32⟩
  | .hbm, ⟨87, _⟩ => ⟨S8x2048x24x8, .f32⟩
  | .hbm, ⟨88, _⟩ => ⟨S8x2048x24x8, .f32⟩
  | .hbm, ⟨89, _⟩ => ⟨S8x2048x24x8, .f32⟩
  | .hbm, ⟨90, _⟩ => ⟨S8x2048x24x8, .f32⟩
  | .hbm, ⟨91, _⟩ => ⟨S8x2048x24x8, .f32⟩
  | .hbm, ⟨92, _⟩ => ⟨S8x2048x24x48, .f32⟩
  | .hbm, ⟨93, _⟩ => ⟨S8x2048x24x64, .f32⟩
  | .hbm, ⟨94, _⟩ => ⟨S8x2048x24x64, .f32⟩
  | .hbm, ⟨95, _⟩ => ⟨S8x2048x8x64, .f32⟩
  | .hbm, ⟨96, _⟩ => ⟨S_, .f32⟩
  | .hbm, ⟨97, _⟩ => ⟨S8x2048x8x64, .f32⟩
  | .hbm, ⟨98, _⟩ => ⟨S8x2048x8x64, .f32⟩
  | .hbm, ⟨99, _⟩ => ⟨S8x2048x8x64, .f32⟩
  | .hbm, ⟨100, _⟩ => ⟨S_, .f32⟩
  | .hbm, ⟨101, _⟩ => ⟨S8x2048x8x64, .f32⟩
  | .hbm, ⟨102, _⟩ => ⟨S8x2048x8x64, .f32⟩
  | .hbm, ⟨103, _⟩ => ⟨S8x2048x8x64, .f32⟩
  | .hbm, ⟨104, _⟩ => ⟨S_, .f32⟩
  | .hbm, ⟨105, _⟩ => ⟨S8x2048x8x64, .f32⟩
  | .hbm, ⟨106, _⟩ => ⟨S8x2048x8x64, .f32⟩
  | .hbm, ⟨107, _⟩ => ⟨S8x2048x8x64, .f32⟩
  | .hbm, ⟨108, _⟩ => ⟨S8x2048x8x64, .f32⟩
  | .hbm, ⟨109, _⟩ => ⟨S8x2048x1x8x64, .f32⟩
  | .hbm, ⟨110, _⟩ => ⟨S8x2048x1x8x64, .f32⟩
  | .hbm, ⟨111, _⟩ => ⟨S8x2048x2x8x64, .f32⟩
  | .hbm, ⟨112, _⟩ => ⟨S8x2048x8x64, .f32⟩
  | .hbm, ⟨113, _⟩ => ⟨S8x2048x8x64, .f32⟩
  | .hbm, ⟨114, _⟩ => ⟨S8x2048x1x8x64, .f32⟩
  | .hbm, ⟨115, _⟩ => ⟨S8x2048x1x8x64, .f32⟩
  | .hbm, ⟨116, _⟩ => ⟨S8x2048x2x8x64, .f32⟩
  | .hbm, ⟨117, _⟩ => ⟨S8x2048x8x64, .f32⟩
  | .hbm, ⟨118, _⟩ => ⟨S8x2048x8x64, .f32⟩
  | .hbm, ⟨119, _⟩ => ⟨S8x2048x1x8x64, .f32⟩
  | .hbm, ⟨120, _⟩ => ⟨S8x2048x1x8x64, .f32⟩
  | .hbm, ⟨121, _⟩ => ⟨S8x2048x2x8x64, .f32⟩
  | .hbm, ⟨122, _⟩ => ⟨S8x2048x2x512, .f32⟩
  | .hbm, ⟨123, _⟩ => ⟨S8x128x2x512, .f32⟩
  | .hbm, ⟨124, _⟩ => ⟨S8x2x512x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x1024 : Shape := ⟨2, ![1, 1024]⟩
abbrev S1x1024x7168 : Shape := ⟨3, ![1, 1024, 7168]⟩
abbrev S16384x1024 : Shape := ⟨2, ![16384, 1024]⟩
abbrev S1024 : Shape := ⟨1, ![1024]⟩
abbrev S1024x7168 : Shape := ⟨2, ![1024, 7168]⟩
abbrev S2048 : Shape := ⟨1, ![2048]⟩
abbrev S8 : Shape := ⟨1, ![8]⟩
abbrev S_ : Shape := ⟨0, ![]⟩
abbrev S8x1 : Shape := ⟨2, ![8, 1]⟩
abbrev S1x2048 : Shape := ⟨2, ![1, 2048]⟩
abbrev S8x2048 : Shape := ⟨2, ![8, 2048]⟩
abbrev S1024x1536 : Shape := ⟨2, ![1024, 1536]⟩
abbrev S1536x1024 : Shape := ⟨2, ![1536, 1024]⟩
abbrev S3x512x1024 : Shape := ⟨3, ![3, 512, 1024]⟩
abbrev S8x2x512x512 : Shape := ⟨4, ![8, 2, 512, 512]⟩
abbrev S256x1024 : Shape := ⟨2, ![256, 1024]⟩
abbrev S1x512x1024 : Shape := ⟨3, ![1, 512, 1024]⟩
abbrev S8x256 : Shape := ⟨2, ![8, 256]⟩
abbrev S1x2x512x256 : Shape := ⟨4, ![1, 2, 512, 256]⟩
abbrev S256 : Shape := ⟨1, ![256]⟩
abbrev S256x1 : Shape := ⟨2, ![256, 1]⟩
abbrev S512x1024 : Shape := ⟨2, ![512, 1024]⟩
abbrev S512x256 : Shape := ⟨2, ![512, 256]⟩
abbrev S48x256 : Shape := ⟨2, ![48, 256]⟩
abbrev S1x1x512x256 : Shape := ⟨4, ![1, 1, 512, 256]⟩

abbrev nBuf : Space → Nat
  | .hbm => 32
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7168, .f32⟩
  | .hbm, ⟨3, _⟩ => ⟨S16384x1024, .f32⟩
  | .hbm, ⟨4, _⟩ => ⟨S1024, .f32⟩
  | .hbm, ⟨5, _⟩ => ⟨S1024x7168, .f32⟩
  | .hbm, ⟨6, _⟩ => ⟨S1024x7168, .bf16⟩
  | .hbm, ⟨7, _⟩ => ⟨S2048, .i32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8x1, .f32⟩
  | .hbm, ⟨17, _⟩ => ⟨S2048, .f32⟩
  | .hbm, ⟨18, _⟩ => ⟨S1x2048, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S1024x1536, .bf16⟩
  | .hbm, ⟨25, _⟩ => ⟨S1536x1024, .bf16⟩
  | .hbm, ⟨26, _⟩ => ⟨S3x512x1024, .bf16⟩
  | .hbm, ⟨27, _⟩ => ⟨S1024x1536, .bf16⟩
  | .hbm, ⟨28, _⟩ => ⟨S1536x1024, .bf16⟩
  | .hbm, ⟨29, _⟩ => ⟨S3x512x1024, .bf16⟩
  | .hbm, ⟨30, _⟩ => ⟨S1x1024, .f32⟩
  | .hbm, ⟨31, _⟩ => ⟨S8x2x512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x512x1024, .bf16⟩
  | .local _ .vmem, ⟨4, _⟩ => ⟨S1x512x1024, .bf16⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S1x2x512x256, .f32⟩
  | .local _ .vmem, ⟨10, _⟩ => ⟨S1x2x512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c6_i32 : BitVec 32 := 6#32
  let v1 : BitVec 32 := Scalar.addi v0 c6_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x2048x1024 : Shape := ⟨3, ![8, 2048, 1024]⟩
abbrev S1x1024 : Shape := ⟨2, ![1, 1024]⟩
abbrev S1x1024x7168 : Shape := ⟨3, ![1, 1024, 7168]⟩
abbrev S2048 : Shape := ⟨1, ![2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7168 : Shape := ⟨2, ![1024, 7168]⟩
abbrev S8x2048x7168 : Shape := ⟨3, ![8, 2048, 7168]⟩
abbrev S8x2048x1536 : Shape := ⟨3, ![8, 2048, 1536]⟩
abbrev S8x2048x512 : Shape := ⟨3, ![8, 2048, 512]⟩
abbrev S8x2048x2048 : Shape := ⟨3, ![8, 2048, 2048]⟩
abbrev S8x2048x24x64 : Shape := ⟨4, ![8, 2048, 24, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x24x8 : Shape := ⟨4, ![8, 2048, 24, 8]⟩
abbrev S8x2048x24x48 : Shape := ⟨4, ![8, 2048, 24, 48]⟩
abbrev S8x2048x8x64 : Shape := ⟨4, ![8, 2048, 8, 64]⟩
abbrev S8x2048x1x8x64 : Shape := ⟨5, ![8, 2048, 1, 8, 64]⟩
abbrev S8x2048x2x8x64 : Shape := ⟨5, ![8, 2048, 2, 8, 64]⟩
abbrev S8x2048x2x512 : Shape := ⟨4, ![8, 2048, 2, 512]⟩
abbrev S8x512x2x512 : Shape := ⟨4, ![8, 512, 2, 512]⟩
abbrev S8x2x512x512 : Shape := ⟨4, ![8, 2, 512, 512]⟩

abbrev nBuf : Space → Nat
  | .hbm => 125
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7168, .f32⟩
  | .hbm, ⟨3, _⟩ => ⟨S2048, .i32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x7168, .f32⟩
  | .hbm, ⟨22, _⟩ => ⟨S8x2048x7168, .f32⟩
  | .hbm, ⟨23, _⟩ => ⟨S8x2048x1536, .f32⟩
  | .hbm, ⟨24, _⟩ => ⟨S8x2048x1536, .f32⟩
  | .hbm, ⟨25, _⟩ => ⟨S8x2048x1536, .f32⟩
  | .hbm, ⟨26, _⟩ => ⟨S8x2048x512, .f32⟩
  | .hbm, ⟨27, _⟩ => ⟨S8x2048x2048, .f32⟩
  | .hbm, ⟨28, _⟩ => ⟨S8x2048x24x64, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S2048, .f32⟩
  | .hbm, ⟨38, _⟩ => ⟨S2048x1, .f32⟩
  | .hbm, ⟨39, _⟩ => ⟨S1x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S1x2048x1x8, .f32⟩
  | .hbm, ⟨45, _⟩ => ⟨S2048x8, .f32⟩
  | .hbm, ⟨46, _⟩ => ⟨S1x2048x1x8, .f32⟩
  | .hbm, ⟨47, _⟩ => ⟨S8x2048x24x8, .f32⟩
  | .hbm, ⟨48, _⟩ => ⟨S8x2048x24x8, .f32⟩
  | .hbm, ⟨49, _⟩ => ⟨S8x2048x24x8, .f32⟩
  | .hbm, ⟨50, _⟩ => ⟨S8x2048x24x8, .f32⟩
  | .hbm, ⟨51, _⟩ => ⟨S8x2048x24x8, .f32⟩
  | .hbm, ⟨52, _⟩ => ⟨S8x2048x24x8, .f32⟩
  | .hbm, ⟨53, _⟩ => ⟨S8x2048x24x8, .f32⟩
  | .hbm, ⟨54, _⟩ => ⟨S8x2048x24x8, .f32⟩
  | .hbm, ⟨55, _⟩ => ⟨S8x2048x24x8, .f32⟩
  | .hbm, ⟨56, _⟩ => ⟨S8x2048x24x8, .f32⟩
  | .hbm, ⟨57, _⟩ => ⟨S8x2048x24x8, .f32⟩
  | .hbm, ⟨58, _⟩ => ⟨S8x2048x24x8, .f32⟩
  | .hbm, ⟨59, _⟩ => ⟨S8x2048x24x48, .f32⟩
  | .hbm, ⟨60, _⟩ => ⟨S8x2048x24x64, .f32⟩
  | .hbm, ⟨61, _⟩ => ⟨S8x2048x24x64, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S2048, .f32⟩
  | .hbm, ⟨71, _⟩ => ⟨S2048x1, .f32⟩
  | .hbm, ⟨72, _⟩ => ⟨S1x8, .f32⟩
  | .hbm, ⟨73, _⟩ => ⟨S2048x8, .f32⟩
  | .hbm, ⟨74, _⟩ => ⟨S2048x8, .f32⟩
  | .hbm, ⟨75, _⟩ => ⟨S2048x8, .f32⟩
  | .hbm, ⟨76, _⟩ => ⟨S2048x8, .f32⟩
  | .hbm, ⟨77, _⟩ => ⟨S1x2048x1x8, .f32⟩
  | .hbm, ⟨78, _⟩ => ⟨S2048x8, .f32⟩
  | .hbm, ⟨79, _⟩ => ⟨S1x2048x1x8, .f32⟩
  | .hbm, ⟨80, _⟩ => ⟨S8x2048x24x8, .f32⟩
  | .hbm, ⟨81, _⟩ => ⟨S8x2048x24x8, .f32⟩
  | .hbm, ⟨82, _⟩ => ⟨S8x2048x24x8, .f32⟩
  | .hbm, ⟨83, _⟩ => ⟨S8x2048x24x8, .f32⟩
  | .hbm, ⟨84, _⟩ => ⟨S8x2048x24x8, .f32⟩
  | .hbm, ⟨85, _⟩ => ⟨S8x2048x24x8, .f32⟩
  | .hbm, ⟨86, _⟩ => ⟨S8x2048x24x8, .f32⟩
  | .hbm, ⟨87, _⟩ => ⟨S8x2048x24x8, .f32⟩
  | .hbm, ⟨88, _⟩ => ⟨S8x2048x24x8, .f32⟩
  | .hbm, ⟨89, _⟩ => ⟨S8x2048x24x8, .f32⟩
  | .hbm, ⟨90, _⟩ => ⟨S8x2048x24x8, .f32⟩
  | .hbm, ⟨91, _⟩ => ⟨S8x2048x24x8, .f32⟩
  | .hbm, ⟨92, _⟩ => ⟨S8x2048x24x48, .f32⟩
  | .hbm, ⟨93, _⟩ => ⟨S8x2048x24x64, .f32⟩
  | .hbm, ⟨94, _⟩ => ⟨S8x2048x24x64, .f32⟩
  | .hbm, ⟨95, _⟩ => ⟨S8x2048x8x64, .f32⟩
  | .hbm, ⟨96, _⟩ => ⟨S_, .f32⟩
  | .hbm, ⟨97, _⟩ => ⟨S8x2048x8x64, .f32⟩
  | .hbm, ⟨98, _⟩ => ⟨S8x2048x8x64, .f32⟩
  | .hbm, ⟨99, _⟩ => ⟨S8x2048x8x64, .f32⟩
  | .hbm, ⟨100, _⟩ => ⟨S_, .f32⟩
  | .hbm, ⟨101, _⟩ => ⟨S8x2048x8x64, .f32⟩
  | .hbm, ⟨102, _⟩ => ⟨S8x2048x8x64, .f32⟩
  | .hbm, ⟨103, _⟩ => ⟨S8x2048x8x64, .f32⟩
  | .hbm, ⟨104, _⟩ => ⟨S_, .f32⟩
  | .hbm, ⟨105, _⟩ => ⟨S8x2048x8x64, .f32⟩
  | .hbm, ⟨106, _⟩ => ⟨S8x2048x8x64, .f32⟩
  | .hbm, ⟨107, _⟩ => ⟨S8x2048x8x64, .f32⟩
  | .hbm, ⟨108, _⟩ => ⟨S8x2048x8x64, .f32⟩
  | .hbm, ⟨109, _⟩ => ⟨S8x2048x1x8x64, .f32⟩
  | .hbm, ⟨110, _⟩ => ⟨S8x2048x1x8x64, .f32⟩
  | .hbm, ⟨111, _⟩ => ⟨S8x2048x2x8x64, .f32⟩
  | .hbm, ⟨112, _⟩ => ⟨S8x2048x8x64, .f32⟩
  | .hbm, ⟨113, _⟩ => ⟨S8x2048x8x64, .f32⟩
  | .hbm, ⟨114, _⟩ => ⟨S8x2048x1x8x64, .f32⟩
  | .hbm, ⟨115, _⟩ => ⟨S8x2048x1x8x64, .f32⟩
  | .hbm, ⟨116, _⟩ => ⟨S8x2048x2x8x64, .f32⟩
  | .hbm, ⟨117, _⟩ => ⟨S8x2048x8x64, .f32⟩
  | .hbm, ⟨118, _⟩ => ⟨S8x2048x8x64, .f32⟩
  | .hbm, ⟨119, _⟩ => ⟨S8x2048x1x8x64, .f32⟩
  | .hbm, ⟨120, _⟩ => ⟨S8x2048x1x8x64, .f32⟩
  | .hbm, ⟨121, _⟩ => ⟨S8x2048x2x8x64, .f32⟩
  | .hbm, ⟨122, _⟩ => ⟨S8x2048x2x512, .f32⟩
  | .hbm, ⟨123, _⟩ => ⟨S8x512x2x512, .f32⟩
  | .hbm, ⟨124, _⟩ => ⟨S8x2x512x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩

abbrev nD : Nat := 1
abbrev τ : Topo := Topo.v7x

variable {F : FTy → Type} [FloatOps F]
-- ==== Proof.Attn.Softmax.lean ====
/- Softmax over a masked row of scores, as the kernel and the reference each write it, and why the two agree.

   A row is a function `s` from a finite set of keys to the extended reals: real at a key the mask keeps, `⊥` at one it
   drops. The kernel sums over the columns of a square tile, the reference over the taps of a strided window; both
   index the same kept keys, in another order and with other dropped ones. -/
module

public import Idealize.ShloMosaic.PureOps.Ideal

@[expose] public section

noncomputable section

namespace Cert.Softmax

open Idealize.ShloMosaic

variable {ι κ : Type} [Fintype ι] [Fintype κ]

/-- The largest score of the row (`⊥` for an empty row). -/
def top (s : ι → EReal) : EReal := Finset.univ.fold max ⊥ s

/-- The sum of the exponentials of the scores, each less the largest. -/
def mass (s : ι → EReal) : EReal := ∑ c, Ideal.exp (s c - top s)

/-- The logarithm of the sum of the exponentials of the scores, by the largest one. -/
def lse (s : ι → EReal) : EReal := top s + Ideal.log (mass s)

/-- The weighted mean of `v`, divided after the sum: the kernel's way. -/
def meanAfter (s v : ι → EReal) : EReal := Ideal.div (∑ c, Ideal.exp (s c - top s) * v c) (mass s)

/-- The weighted mean of `v`, with normalised weights `exp (s - lse)`: the reference's way. -/
def meanBefore (s v : ι → EReal) : EReal := ∑ c, Ideal.exp (s c - lse s) * v c

theorem le_top (s : ι → EReal) (c : ι) : s c ≤ top s := by
  unfold top
  rw [Finset.le_fold_max]
  exact Or.inr ⟨c, Finset.mem_univ c, le_rfl⟩

theorem top_le (s : ι → EReal) (b : EReal) (h : ∀ c, s c ≤ b) : top s ≤ b := by
  unfold top
  rw [Finset.fold_max_le]
  exact ⟨bot_le, fun c _ => h c⟩

/-- The largest of finitely many scores is one of them, when one is not `⊥`. -/
theorem exists_top (s : ι → EReal) (h : ∃ c, s c ≠ ⊥) : ∃ c, s c = top s := by
  obtain ⟨c₀, h₀⟩ := h
  obtain ⟨c, -, hc⟩ := Finset.exists_max_image Finset.univ s ⟨c₀, Finset.mem_univ c₀⟩
  exact ⟨c, le_antisymm (le_top s c) (top_le s _ fun d => hc d (Finset.mem_univ d))⟩

theorem exp_bot_sub (m : EReal) (h : m ≠ ⊥) : Ideal.exp (⊥ - m) = 0 := by
  induction m with
  | bot => exact absurd rfl h
  | top => rfl
  | coe r => rfl

theorem exp_coe_sub (x m : ℝ) : Ideal.exp ((x : EReal) - (m : EReal)) = ((Real.exp (x - m) : ℝ) : EReal) := by
  rw [← EReal.coe_sub]; rfl

theorem exp_nonneg (x : EReal) : 0 ≤ Ideal.exp x := by
  induction x with
  | bot => exact le_rfl
  | top => exact _root_.le_top
  | coe r => exact EReal.coe_nonneg.mpr (Real.exp_pos r).le

/-- A real nonnegative factor goes through a finite sum of extended reals. -/
theorem sum_mul_coe (a : ι → EReal) (r : ℝ) (hr : 0 ≤ r) : (∑ c, a c) * (r : EReal) = ∑ c, a c * (r : EReal) := by
  classical
  have key : ∀ S : Finset ι, (∑ c ∈ S, a c) * (r : EReal) = ∑ c ∈ S, a c * (r : EReal) := by
    intro S
    induction S using Finset.induction_on with
    | empty => simp
    | insert c S hc ih =>
      rw [Finset.sum_insert hc, Finset.sum_insert hc,
        EReal.right_distrib_of_nonneg_of_ne_top (EReal.coe_nonneg.mpr hr) (EReal.coe_ne_top r), ih]
  exact key Finset.univ

/-- The facts of one masked row with a kept key: the largest score is real, and so is the positive mass. -/
theorem row_real (s : ι → EReal) (htop : ∀ c, s c ≠ ⊤) (hne : ∃ c, s c ≠ ⊥) :
    ∃ m l : ℝ, top s = (m : EReal) ∧ 0 < l ∧ mass s = (l : EReal) := by
  obtain ⟨c₀, h₀⟩ := exists_top s hne
  have hb : top s ≠ ⊥ := by
    obtain ⟨c, hc⟩ := hne
    exact fun h => hc (le_bot_iff.mp (h ▸ le_top s c))
  have ht : top s ≠ ⊤ := h₀ ▸ htop c₀
  obtain ⟨m, hm⟩ : ∃ m : ℝ, top s = (m : EReal) := ⟨(top s).toReal, (EReal.coe_toReal ht hb).symm⟩
  have hterm : ∀ c, ∃ r : ℝ, Ideal.exp (s c - top s) = (r : EReal) ∧ 0 ≤ r := by
    intro c
    by_cases hc : s c = ⊥
    · exact ⟨0, by rw [hc, exp_bot_sub _ hb]; rfl, le_rfl⟩
    · refine ⟨Real.exp ((s c).toReal - m), ?_, (Real.exp_pos _).le⟩
      rw [hm, ← exp_coe_sub, EReal.coe_toReal (htop c) hc]
  choose r hr hr0 using hterm
  refine ⟨m, ∑ c, r c, hm, ?_, ?_⟩
  · refine Finset.sum_pos' (fun c _ => hr0 c) ⟨c₀, Finset.mem_univ _, ?_⟩
    have h1 : Ideal.exp (s c₀ - top s) = ((1 : ℝ) : EReal) := by
      rw [h₀, hm, exp_coe_sub, sub_self, Real.exp_zero]
    rw [hr c₀, EReal.coe_eq_coe_iff] at h1
    rw [h1]; exact one_pos
  · unfold mass
    rw [Finset.sum_congr rfl fun c _ => hr c]
    exact (map_sum (⟨⟨fun x : ℝ => (x : EReal), EReal.coe_zero⟩, EReal.coe_add⟩ : ℝ →+ EReal) r Finset.univ).symm

/-- On one row the two ways agree: dividing the sum by the mass, or each weight beforehand. -/
theorem meanAfter_eq_meanBefore (s v : ι → EReal) (htop : ∀ c, s c ≠ ⊤) (hne : ∃ c, s c ≠ ⊥) :
    meanAfter s v = meanBefore s v := by
  obtain ⟨m, l, hm, hl, hmass⟩ := row_real s htop hne
  have hlse : lse s = ((m + Real.log l : ℝ) : EReal) := by
    unfold lse
    rw [hm, hmass, EReal.coe_add]
    show (m : EReal) + (if l ≤ 0 then ⊥ else ((Real.log l : ℝ) : EReal)) = _
    rw [if_neg (not_le.mpr hl)]
  have hinv : ((l : ℝ) : EReal)⁻¹ = ((l⁻¹ : ℝ) : EReal) := (EReal.coe_inv l).symm
  unfold meanAfter meanBefore
  rw [hmass, Ideal.div, if_neg (by rw [← EReal.coe_zero]; exact fun h => hl.ne' (EReal.coe_eq_coe_iff.mp h)), hinv,
    sum_mul_coe _ _ (inv_nonneg.mpr hl.le)]
  refine Finset.sum_congr rfl fun c _ => ?_
  rw [mul_right_comm]
  congr 1
  by_cases hc : s c = ⊥
  · rw [hc, exp_bot_sub _ (by rw [hm]; exact EReal.coe_ne_bot m), exp_bot_sub _ (by rw [hlse]; exact EReal.coe_ne_bot _), zero_mul]
  · rw [← EReal.coe_toReal (htop c) hc, hm, hlse, exp_coe_sub, exp_coe_sub, ← EReal.coe_mul]
    congr 1
    rw [← sub_sub, Real.exp_sub (_ - m), Real.exp_log hl, div_eq_mul_inv]

/-! ## Two rows that keep the same keys -/

section Reindex

variable (s : ι → EReal) (s' : κ → EReal) (f : κ → ι)
  (hinj : ∀ a b, s' a ≠ ⊥ → s' b ≠ ⊥ → f a = f b → a = b)
  (hsurj : ∀ c, s c ≠ ⊥ → ∃ a, s' a ≠ ⊥ ∧ f a = c)
  (hval : ∀ a, s' a ≠ ⊥ → s (f a) = s' a)

include hsurj hval in
/-- They have the same largest score, -/
theorem top_reindex : top s = top s' := by
  refine le_antisymm (top_le _ _ fun c => ?_) (top_le _ _ fun a => ?_)
  · by_cases hc : s c = ⊥
    · rw [hc]; exact bot_le
    · obtain ⟨a, ha, rfl⟩ := hsurj c hc
      rw [hval a ha]; exact le_top s' a
  · by_cases ha : s' a = ⊥
    · rw [ha]; exact bot_le
    · rw [← hval a ha]; exact le_top s (f a)

include hinj hsurj hval in
/-- and the same sum of any function of the score and the value that is zero at a dropped key. -/
theorem sum_reindex (g : EReal → EReal) (hg : g ⊥ = 0) (v : ι → EReal) (v' : κ → EReal)
    (hv : ∀ a, s' a ≠ ⊥ → v (f a) = v' a) : ∑ c, g (s c) * v c = ∑ a, g (s' a) * v' a := by
  classical
  rw [← Finset.sum_filter_of_ne (s := Finset.univ) (p := fun c => s c ≠ ⊥) (f := fun c => g (s c) * v c)
      (fun c _ h hc => h (by rw [hc, hg, zero_mul])),
    ← Finset.sum_filter_of_ne (s := Finset.univ) (p := fun a => s' a ≠ ⊥) (f := fun a => g (s' a) * v' a)
      (fun a _ h ha => h (by rw [ha, hg, zero_mul]))]
  symm
  refine Finset.sum_bij (fun a _ => f a) (fun a ha => ?_) (fun a ha b hb h => ?_) (fun c hc => ?_) (fun a ha => ?_)
  · rw [Finset.mem_filter] at ha ⊢
    exact ⟨Finset.mem_univ _, by rw [hval a ha.2]; exact ha.2⟩
  · exact hinj a b (Finset.mem_filter.mp ha).2 (Finset.mem_filter.mp hb).2 h
  · obtain ⟨a, ha, h⟩ := hsurj c (Finset.mem_filter.mp hc).2
    exact ⟨a, Finset.mem_filter.mpr ⟨Finset.mem_univ _, ha⟩, h⟩
  · have h := (Finset.mem_filter.mp ha).2
    rw [hval a h, hv a h]

variable (htop : ∀ c, s c ≠ ⊤) (hne : ∃ c, s c ≠ ⊥)

include hinj hsurj hval hne in
theorem mass_reindex : mass s = mass s' := by
  have hb : top s ≠ ⊥ := by
    obtain ⟨c, hc⟩ := hne
    exact fun h => hc (le_bot_iff.mp (h ▸ le_top s c))
  have h := sum_reindex s s' f hinj hsurj hval (fun x => Ideal.exp (x - top s)) (exp_bot_sub _ hb)
    (fun _ => 1) (fun _ => 1) (fun _ _ => rfl)
  simp only [mul_one] at h
  unfold mass
  rw [h, top_reindex s s' f hsurj hval]

include hinj hsurj hval hne in
/-- The two rows' logarithms of the sum of exponentials are equal. -/
theorem lse_reindex : lse s = lse s' := by
  unfold lse
  rw [mass_reindex s s' f hinj hsurj hval hne, top_reindex s s' f hsurj hval]

include hinj hsurj hval htop hne in
/-- The kernel's mean over its columns is the reference's mean over its taps. -/
theorem mean_reindex (v : ι → EReal) (v' : κ → EReal) (hv : ∀ a, s' a ≠ ⊥ → v (f a) = v' a) :
    meanAfter s v = meanBefore s' v' := by
  rw [meanAfter_eq_meanBefore s v htop hne]
  have hl : lse s ≠ ⊥ := by
    obtain ⟨m, l, hm, hl, hmass⟩ := row_real s htop hne
    unfold lse
    rw [hm, hmass]
    show (m : EReal) + (if l ≤ 0 then ⊥ else ((Real.log l : ℝ) : EReal)) ≠ ⊥
    rw [if_neg (not_le.mpr hl), ← EReal.coe_add]
    exact EReal.coe_ne_bot _
  unfold meanBefore
  rw [← lse_reindex s s' f hinj hsurj hval hne]
  exact sum_reindex s s' f hinj hsurj hval (fun x => Ideal.exp (x - lse s)) (exp_bot_sub _ hl) v v' hv

end Reindex

end Cert.Softmax

end
-- ==== Proof.Attn.Head.lean ====
/- One head pair of the dilated attention kernel's tile, read at an index: the two 64-lane heads of a 128-lane column
   block attend in one product of 256 rows, head masked against head; what a lane ends with is the attention of its own
   head over the columns at or before its row. -/
module
public import proofs.«01_k».proof.Proof.Gen.KernelIdeal.Value
public import Idealize.ShloMosaic.Lib.Pointwise
public import Idealize.ShloMosaic.Lib.WordCmp
public import proofs.«01_k».proof.Proof.Attn.Softmax
@[expose] public section
noncomputable section
namespace Cert.KernelIdeal.Attn
open Cert.KernelIdeal Cert.KernelIdeal.Gen Idealize.ShloMosaic Idealize.ShloMosaic.TcCoe Idealize.SL.Sem Cert.Softmax

theorem ofBits_neg_inf : Ideal.ofBits .f32 0xFF800000#32 = ⊥ := by
  simp [Ideal.ofBits, Ideal.ieee]

/-- Lane `d` of head `h` of a head pair. -/
abbrev lane (h : Fin 2) (d : Fin 64) : Fin 128 := ⟨64 * h.val + d.val, by omega⟩

/-- The head a lane belongs to. -/
abbrev headOf (l : Fin 128) : Fin 2 := ⟨l.val / 64, by omega⟩

/-- The score of query row `i` against key row `c` in head `h`, masked to the columns at or before the row. -/
def tileScore (q k : S128x128.Idx → EReal) (h : Fin 2) (i c : Fin 128) : EReal :=
  if c.val ≤ i.val then ∑ d : Fin 64, q (ix2 i (lane h d)) * k (ix2 c (lane h d)) else ⊥

/-- A sum over the 128 lanes that keeps the low head's is the sum over that head's 64 lanes, -/
theorem sum_low (f : Fin 128 → EReal) :
    (∑ x : Fin 128, if x.val < 64 then f x else 0) = ∑ d : Fin 64, f (lane 0 d) := by
  rw [show (∑ x : Fin 128, if x.val < 64 then f x else 0) = ∑ x : Fin (64 + 64), if x.val < 64 then f x else 0 from rfl,
    Fin.sum_univ_add]
  have h0 : ∀ d : Fin 64, (if (Fin.natAdd 64 d : Fin (64 + 64)).val < 64 then f (Fin.natAdd 64 d) else 0) = 0 :=
    fun d => if_neg (by simp)
  have h1 : ∀ d : Fin 64, (if (Fin.castAdd 64 d : Fin (64 + 64)).val < 64 then f (Fin.castAdd 64 d) else 0) = f (lane 0 d) :=
    fun d => (if_pos (by simp)).trans (congrArg f (Fin.ext (by simp [lane])))
  rw [Finset.sum_congr rfl fun d _ => h1 d, Finset.sum_congr rfl fun d _ => h0 d, Finset.sum_const_zero, add_zero]

/-- and one that drops them the sum over the high head's. -/
theorem sum_high (f : Fin 128 → EReal) :
    (∑ x : Fin 128, if x.val < 64 then 0 else f x) = ∑ d : Fin 64, f (lane 1 d) := by
  rw [show (∑ x : Fin 128, if x.val < 64 then 0 else f x) = ∑ x : Fin (64 + 64), if x.val < 64 then 0 else f x from rfl,
    Fin.sum_univ_add]
  have h0 : ∀ d : Fin 64, (if (Fin.castAdd 64 d : Fin (64 + 64)).val < 64 then 0 else f (Fin.castAdd 64 d)) = 0 :=
    fun d => if_pos (by simp)
  have h1 : ∀ d : Fin 64, (if (Fin.natAdd 64 d : Fin (64 + 64)).val < 64 then 0 else f (Fin.natAdd 64 d)) = f (lane 1 d) :=
    fun d => (if_neg (by simp)).trans (congrArg f (Fin.ext (by simp [lane, Nat.add_comm])))
  rw [Finset.sum_congr rfl fun d _ => h1 d, Finset.sum_congr rfl fun d _ => h0 d, Finset.sum_const_zero, zero_add]

theorem select_lane (x : Fin 128) (a b : EReal) :
    Scalar.select (IntOp.cmpi .slt (BitVec.ofNat 32 x.val) 64#32) a b = if x.val < 64 then a else b := by
  rw [WordCmp.cmpi_slt_ofNat (w := 32) (a := x.val) (b := 64) (by omega) (by omega)]
  by_cases h : x.val < 64 <;> simp [h, Scalar.select]

theorem select_col (x y : Nat) (hx : x < 256) (hy : y < 256) (a b : EReal) :
    Scalar.select (IntOp.cmpi .sle (BitVec.ofNat 32 x) (BitVec.ofNat 32 y)) a b = if x ≤ y then a else b := by
  rw [WordCmp.cmpi_sle_ofNat (w := 32) (a := x) (b := y) (by omega) (by omega)]
  by_cases h : x ≤ y <;> simp [h, Scalar.select]

theorem low_apply (i l : Fin 128) : k0_pay3 (ix2 i l) = IntOp.cmpi .slt (BitVec.ofNat 32 l.val) 64#32 := by
  pointwise [k0_pay3]

set_option maxRecDepth 16384 in
theorem score_low (q k : FVec Ideal S128x128 .bf16) (i c : Fin 128) :
    k0_pay51 (F := Ideal) k0_pay3 (k0_pay41 k0_pay2) q k (ix2 ⟨i.val, by omega⟩ c) = tileScore q k 0 i c := by
  pointwise [k0_pay51, k0_pay3, k0_pay41, k0_pay2]
  have hi : i.val < 128 := i.isLt
  simp only [hi, dite_true, select_lane, ofBits_neg_inf]
  rw [select_col _ _ (by omega) (by omega), sum_low (fun x => q (ix2 i x) * k (ix2 c x))]
  rfl

set_option maxRecDepth 16384 in
theorem score_high (q k : FVec Ideal S128x128 .bf16) (i c : Fin 128) :
    k0_pay51 (F := Ideal) k0_pay3 (k0_pay41 k0_pay2) q k (ix2 ⟨128 + i.val, by omega⟩ c) = tileScore q k 1 i c := by
  pointwise [k0_pay51, k0_pay3, k0_pay41, k0_pay2]
  have hi : ¬ 128 + i.val < 128 := by omega
  have e : ∀ h, (⟨128 + i.val - 128, h⟩ : Fin 128) = i := fun h => Fin.ext (by simp)
  simp only [hi, dite_false, select_lane, ofBits_neg_inf, Nat.add_sub_cancel_left]
  rw [select_col _ _ (by omega) (by omega), sum_high (fun x => q (ix2 i x) * k (ix2 c x))]
  rfl

set_option maxRecDepth 16384 in
/-- The attention's output at a row and a lane of the head pair: the mean of the values, divided after the sum. -/
theorem o_apply (q k v: FVec Ideal S128x128 .bf16) (i : Fin 128) (l : Fin 128) :
    k0_pay55 (F := Ideal) k0_pay3 (k0_pay41 k0_pay2) q k v (ix3 0 i l)
      = meanAfter (tileScore q k (headOf l) i) (fun c => v (ix2 c l)) := by
  pointwise [k0_pay55, k0_pay54, k0_pay53, k0_pay52]
  simp only [low_apply, select_lane, score_low, score_high, ofBits_neg_inf]
  by_cases h : l.val < 64
  · rw [if_pos h, show headOf l = 0 from Fin.ext (Nat.div_eq_of_lt h)]
    rfl
  · rw [if_neg h, show headOf l = 1 from Fin.ext (by show l.val / 64 = 1; omega)]
    rfl

set_option maxRecDepth 16384 in
/-- The logarithm of the row's sum of exponentials at a row and a lane of the head pair. -/
theorem lse_apply (q k : FVec Ideal S128x128 .bf16) (i : Fin 128) (l : Fin 128) :
    k0_pay56 (F := Ideal) k0_pay3 (k0_pay41 k0_pay2) q k (ix3 0 i l) = lse (tileScore q k (headOf l) i) := by
  pointwise [k0_pay56, k0_pay54, k0_pay53, k0_pay52]
  simp only [low_apply, select_lane, score_low, score_high, ofBits_neg_inf]
  by_cases h : l.val < 64
  · rw [if_pos h, show headOf l = 0 from Fin.ext (Nat.div_eq_of_lt h)]
    rfl
  · rw [if_neg h, show headOf l = 1 from Fin.ext (by show l.val / 64 = 1; omega)]
    rfl
end Cert.KernelIdeal.Attn
end
-- ==== Proof.Attn.Block.lean ====
module
public import proofs.«01_k».proof.Proof.Attn.Head
@[expose] public section
noncomputable section
namespace Cert.KernelIdeal.Attn
open Cert.KernelIdeal Cert.KernelIdeal.Gen Idealize.ShloMosaic Idealize.ShloMosaic.TcCoe Idealize.SL.Sem Cert.Softmax

/-- The score of query row `i` against key row `c` in a block, for the head that output column `col`
belongs to: columns run over four residues of 512 columns, each of eight heads of 64; the block of
keys and values has 1024 columns a residue, the keys first. -/
def blkScore (x0 : Vec Ideal S1x128x2048 .bf16) (x1 : Vec Ideal S1x128x4096 .bf16) (i : Fin 128)
    (col : Fin 2048) (c : Fin 128) : EReal :=
  if c ≤ i then ∑ d : Fin 64, x0 (ix3 0 i ⟨64 * (col.val / 64) + d.val, by omega⟩)
    * x1 (ix3 0 c ⟨1024 * (col.val / 512) + 64 * (col.val % 512 / 64) + d.val, by omega⟩) else ⊥

/-- The value row `c` holds for output column `col`. -/
def blkVal (x1 : Vec Ideal S1x128x4096 .bf16) (col : Fin 2048) (c : Fin 128) : EReal :=
  x1 (ix3 0 c ⟨1024 * (col.val / 512) + 512 + col.val % 512, by omega⟩)

/-- What a block's attention output holds. -/
def oBlk (x0 : Vec Ideal S1x128x2048 .bf16) (x1 : Vec Ideal S1x128x4096 .bf16)
    : Vec Ideal S1x128x2048 .f32 := fun y =>
  meanAfter (blkScore x0 x1 (y 1) (y 2)) (blkVal x1 (y 2))

/-- What a block's log-sum-exp output holds. -/
def lBlk (x0 : Vec Ideal S1x128x2048 .bf16) (x1 : Vec Ideal S1x128x4096 .bf16)
    : Vec Ideal S1x128x2048 .f32 := fun y =>
  lse (blkScore x0 x1 (y 1) (y 2))

section Piece
variable (x0 : Vec Ideal S1x128x2048 .bf16) (x1 : Vec Ideal S1x128x4096 .bf16) (r j : ℕ) (hr : r < 4)
  (hj : j < 4) (Q K V : FVec Ideal S128x128 .bf16)
  (hQ : ∀ i d, Q (ix2 i d) = x0 (ix3 0 i ⟨512 * r + 128 * j + d.val, by omega⟩))
  (hK : ∀ i d, K (ix2 i d) = x1 (ix3 0 i ⟨1024 * r + 128 * j + d.val, by omega⟩))
  (hV : ∀ i d, V (ix2 i d) = x1 (ix3 0 i ⟨1024 * r + 512 + 128 * j + d.val, by omega⟩))

include hQ hK in
/-- The two heads of a 128-column slice score as the block says. -/
theorem tile_blk (i l : Fin 128) (col : Fin 2048) (h : col.val = 512 * r + 128 * j + l.val) :
    tileScore Q K (headOf l) i = blkScore x0 x1 i col := by
  funext c
  unfold tileScore blkScore
  refine if_congr Iff.rfl (Finset.sum_congr rfl fun d _ => ?_) rfl
  rw [hQ, hK]
  have e1 : 512 * r + 128 * j + (64 * (l.val / 64) + d.val) = 64 * (col.val / 64) + d.val := by omega
  have e2 : 1024 * r + 128 * j + (64 * (l.val / 64) + d.val)
      = 1024 * (col.val / 512) + 64 * (col.val % 512 / 64) + d.val := by omega
  congr 2
  · exact congrArg (ix3 0 i) (Fin.ext e1)
  · exact congrArg (ix3 0 c) (Fin.ext e2)

include hQ hK hV in
/-- A 128-column slice's output is its columns of the block's output. -/
theorem piece_o (P : Vec Ideal S1x128x128 .f32)
    (hP : P = k0_pay55 (F := Ideal) k0_pay3 (k0_pay41 k0_pay2) Q K V) (x : S1x128x128.Idx) (y : S1x128x2048.Idx) (h1 : (y 1).val = (x 1).val)
    (h2 : (y 2).val = 512 * r + 128 * j + (x 2).val) :
    P x = oBlk x0 x1 y := by
  subst hP
  obtain ⟨a, i, l, rfl⟩ : ∃ a i l, x = ix3 a i l := ⟨x 0, x 1, x 2, by funext t; fin_cases t <;> rfl⟩
  obtain rfl : a = 0 := Subsingleton.elim _ _
  have e1 : y 1 = i := Fin.ext h1
  rw [o_apply, oBlk, e1, tile_blk x0 x1 r j hr hj Q K hQ hK i l (y 2) h2]
  congr 1
  funext c
  rw [hV]
  unfold blkVal
  exact congrArg x1 (congrArg (ix3 0 c) (Fin.ext (show 1024 * r + 512 + 128 * j + l.val
    = 1024 * ((y 2).val / 512) + 512 + (y 2).val % 512 by
      have h2' : (y 2).val = 512 * r + 128 * j + l.val := h2
      omega)))

include hQ hK in
/-- A 128-column slice's log-sum-exp is its columns of the block's. -/
theorem piece_l (P : Vec Ideal S1x128x128 .f32)
    (hP : P = k0_pay56 (F := Ideal) k0_pay3 (k0_pay41 k0_pay2) Q K) (x : S1x128x128.Idx) (y : S1x128x2048.Idx) (h1 : (y 1).val = (x 1).val)
    (h2 : (y 2).val = 512 * r + 128 * j + (x 2).val) :
    P x = lBlk x0 x1 y := by
  subst hP
  obtain ⟨a, i, l, rfl⟩ : ∃ a i l, x = ix3 a i l := ⟨x 0, x 1, x 2, by funext t; fin_cases t <;> rfl⟩
  obtain rfl : a = 0 := Subsingleton.elim _ _
  have e1 : y 1 = i := Fin.ext h1
  rw [lse_apply, lBlk, e1, tile_blk x0 x1 r j hr hj Q K hQ hK i l (y 2) h2]

end Piece

/-- A slice of a slab: `128` columns from `128 * j`. -/
theorem slab_cols (X : Vec Ideal S1x128x512 .bf16) (j : ℕ) (hj : j < 4)
    (hs : S128x512.Slices ![0, 128 * j] S128x128) (i d : Fin 128) :
    extractStridedSlice S128x128 ![0, 128 * j] (shapeCast S128x512 X shapeCasts_S1x128x512_S128x512) hs (ix2 i d)
      = X (ix3 0 i ⟨128 * j + d.val, by omega⟩) := by
  rw [extractStridedSlice_apply _ _ _ _ (ix2 i ⟨128 * j + d.val, by omega⟩) fun a => by
    fin_cases a
    · show i.val = 0 + i.val; omega
    · rfl]
  pointwise

/-- The three slabs of 512 columns that a block has for residue `r`: its queries, keys and values. -/
structure Slabs (x0 : Vec Ideal S1x128x2048 .bf16) (x1 : Vec Ideal S1x128x4096 .bf16) (r : ℕ)
    (X0 X1 X2 : Vec Ideal S1x128x512 .bf16) : Prop where
  lt : r < 4
  q : ∀ i c, X0 (ix3 0 i c) = x0 (ix3 0 i ⟨512 * r + c.val, by omega⟩)
  k : ∀ i c, X1 (ix3 0 i c) = x1 (ix3 0 i ⟨1024 * r + c.val, by omega⟩)
  v : ∀ i c, X2 (ix3 0 i c) = x1 (ix3 0 i ⟨1024 * r + 512 + c.val, by omega⟩)

/-- The loads of residue 0 are its slabs. -/
theorem slabs_0 (x0 : Vec Ideal S1x128x2048 .bf16) (x1 : Vec Ideal S1x128x4096 .bf16) :
    Slabs x0 x1 0 (View.ld x0 r0_0) (View.ld x1 r0_1) (View.ld x1 r0_2) where
  lt := by omega
  q i c := by pointwise [r0_0] <;> exact congrArg x0 (congrArg (ix3 0 i) (Fin.ext (by dsimp only; omega)))
  k i c := by pointwise [r0_1] <;> exact congrArg x1 (congrArg (ix3 0 i) (Fin.ext (by dsimp only; omega)))
  v i c := by pointwise [r0_2] <;> exact congrArg x1 (congrArg (ix3 0 i) (Fin.ext (by dsimp only; omega)))

/-- The loads of residue 1 are its slabs. -/
theorem slabs_1 (x0 : Vec Ideal S1x128x2048 .bf16) (x1 : Vec Ideal S1x128x4096 .bf16) :
    Slabs x0 x1 1 (View.ld x0 r0_7) (View.ld x1 r0_8) (View.ld x1 r0_9) where
  lt := by omega
  q i c := by pointwise [r0_7] <;> exact congrArg x0 (congrArg (ix3 0 i) (Fin.ext (by dsimp only; omega)))
  k i c := by pointwise [r0_8] <;> exact congrArg x1 (congrArg (ix3 0 i) (Fin.ext (by dsimp only; omega)))
  v i c := by pointwise [r0_9] <;> exact congrArg x1 (congrArg (ix3 0 i) (Fin.ext (by dsimp only; omega)))

/-- The loads of residue 2 are its slabs. -/
theorem slabs_2 (x0 : Vec Ideal S1x128x2048 .bf16) (x1 : Vec Ideal S1x128x4096 .bf16) :
    Slabs x0 x1 2 (View.ld x0 r0_14) (View.ld x1 r0_15) (View.ld x1 r0_16) where
  lt := by omega
  q i c := by pointwise [r0_14] <;> exact congrArg x0 (congrArg (ix3 0 i) (Fin.ext (by dsimp only; omega)))
  k i c := by pointwise [r0_15] <;> exact congrArg x1 (congrArg (ix3 0 i) (Fin.ext (by dsimp only; omega)))
  v i c := by pointwise [r0_16] <;> exact congrArg x1 (congrArg (ix3 0 i) (Fin.ext (by dsimp only; omega)))

/-- The loads of residue 3 are its slabs. -/
theorem slabs_3 (x0 : Vec Ideal S1x128x2048 .bf16) (x1 : Vec Ideal S1x128x4096 .bf16) :
    Slabs x0 x1 3 (View.ld x0 r0_21) (View.ld x1 r0_22) (View.ld x1 r0_23) where
  lt := by omega
  q i c := by pointwise [r0_21] <;> exact congrArg x0 (congrArg (ix3 0 i) (Fin.ext (by dsimp only; omega)))
  k i c := by pointwise [r0_22] <;> exact congrArg x1 (congrArg (ix3 0 i) (Fin.ext (by dsimp only; omega)))
  v i c := by pointwise [r0_23] <;> exact congrArg x1 (congrArg (ix3 0 i) (Fin.ext (by dsimp only; omega)))

/-- The `j`-th 128 columns of a slab. -/
abbrev cols (j : ℕ) (hs : S128x512.Slices ![0, 128 * j] S128x128) (X : Vec Ideal S1x128x512 .bf16) :
    FVec Ideal S128x128 .bf16 :=
  extractStridedSlice S128x128 ![0, 128 * j] (shapeCast S128x512 X shapeCasts_S1x128x512_S128x512) hs

section Slab
variable {x0 : Vec Ideal S1x128x2048 .bf16} {x1 : Vec Ideal S1x128x4096 .bf16} {r : ℕ}
  {X0 X1 X2 : Vec Ideal S1x128x512 .bf16} (H : Slabs x0 x1 r X0 X1 X2) (j : ℕ) (hj : j < 4)
  (hs : S128x512.Slices ![0, 128 * j] S128x128)

include H hj in
/-- A slab's columns are the block's columns. -/
theorem slab_q (i d : Fin 128) : cols j hs X0 (ix2 i d)
    = x0 (ix3 0 i ⟨512 * r + 128 * j + d.val, by have := H.lt; omega⟩) :=
  (slab_cols X0 j hj hs i d).trans ((H.q i _).trans
    (congrArg x0 (congrArg (ix3 0 i) (Fin.ext (by dsimp only; omega)))))

include H hj in
/-- A slab's columns of keys are the block's. -/
theorem slab_k (i d : Fin 128) : cols j hs X1 (ix2 i d)
    = x1 (ix3 0 i ⟨1024 * r + 128 * j + d.val, by have := H.lt; omega⟩) :=
  (slab_cols X1 j hj hs i d).trans ((H.k i _).trans
    (congrArg x1 (congrArg (ix3 0 i) (Fin.ext (by dsimp only; omega)))))

include H hj in
/-- A slab's columns of values are the block's. -/
theorem slab_v (i d : Fin 128) : cols j hs X2 (ix2 i d)
    = x1 (ix3 0 i ⟨1024 * r + 512 + 128 * j + d.val, by have := H.lt; omega⟩) :=
  (slab_cols X2 j hj hs i d).trans ((H.v i _).trans
    (congrArg x1 (congrArg (ix3 0 i) (Fin.ext (by dsimp only; omega)))))

variable (x : S1x128x128.Idx) (y : S1x128x2048.Idx)
  (h1 : (y 1).val = 0 + 1 * (x 1).val) (h2 : (y 2).val = 512 * r + 128 * j + 1 * (x 2).val)

include H hj h1 h2 in
/-- What a slab's slice stores of the attention is its columns of the block's output. -/
theorem slab_o (P : Vec Ideal S1x128x128 .f32)
    (hP : P = k0_pay55 (F := Ideal) k0_pay3 (k0_pay41 k0_pay2) (cols j hs X0) (cols j hs X1) (cols j hs X2)) :
    P x = oBlk x0 x1 y :=
  piece_o x0 x1 r j H.lt hj _ _ _ (slab_q H j hj hs) (slab_k H j hj hs) (slab_v H j hj hs) P hP x y
    (by omega) (by omega)

include H hj h1 h2 in
/-- What a slab's slice stores of the log-sum-exp is its columns of the block's. -/
theorem slab_l (P : Vec Ideal S1x128x128 .f32)
    (hP : P = k0_pay56 (F := Ideal) k0_pay3 (k0_pay41 k0_pay2) (cols j hs X0) (cols j hs X1)) :
    P x = lBlk x0 x1 y :=
  piece_l x0 x1 r j H.lt hj _ _ (slab_q H j hj hs) (slab_k H j hj hs) P hP x y (by omega) (by omega)

end Slab

set_option maxRecDepth 16384 in
/-- The block output `out0_2` is the block's attention. -/
theorem out_o (x0 : Vec Ideal S1x128x2048 .bf16) (x1 : Vec Ideal S1x128x4096 .bf16) :
    out0_2 x0 x1 = oBlk x0 x1 := by
  funext y
  unfold out0_2
  refine View.canon_apply_of_pieces (oBlk x0 x1) _ (fun p hp x => ?_) y (cover0_2 _ _ _ _ _ _ _ _ _ _ _ _ _ _ _ _ y)
  simp only [List.mem_cons, List.mem_nil_iff, or_false] at hp
  rcases hp with rfl | rfl | rfl | rfl | rfl | rfl | rfl | rfl | rfl | rfl | rfl | rfl | rfl | rfl | rfl | rfl
  · exact slab_o (slabs_3 x0 x1) 3 (by omega) slices_S128x512_o0_384_S128x128 x _ rfl rfl _ rfl
  · exact slab_o (slabs_3 x0 x1) 2 (by omega) slices_S128x512_o0_256_S128x128 x _ rfl rfl _ rfl
  · exact slab_o (slabs_3 x0 x1) 1 (by omega) slices_S128x512_o0_128_S128x128 x _ rfl rfl _ rfl
  · exact slab_o (slabs_3 x0 x1) 0 (by omega) slices_S128x512_o0_0_S128x128 x _ rfl rfl _ rfl
  · exact slab_o (slabs_2 x0 x1) 3 (by omega) slices_S128x512_o0_384_S128x128 x _ rfl rfl _ rfl
  · exact slab_o (slabs_2 x0 x1) 2 (by omega) slices_S128x512_o0_256_S128x128 x _ rfl rfl _ rfl
  · exact slab_o (slabs_2 x0 x1) 1 (by omega) slices_S128x512_o0_128_S128x128 x _ rfl rfl _ rfl
  · exact slab_o (slabs_2 x0 x1) 0 (by omega) slices_S128x512_o0_0_S128x128 x _ rfl rfl _ rfl
  · exact slab_o (slabs_1 x0 x1) 3 (by omega) slices_S128x512_o0_384_S128x128 x _ rfl rfl _ rfl
  · exact slab_o (slabs_1 x0 x1) 2 (by omega) slices_S128x512_o0_256_S128x128 x _ rfl rfl _ rfl
  · exact slab_o (slabs_1 x0 x1) 1 (by omega) slices_S128x512_o0_128_S128x128 x _ rfl rfl _ rfl
  · exact slab_o (slabs_1 x0 x1) 0 (by omega) slices_S128x512_o0_0_S128x128 x _ rfl rfl _ rfl
  · exact slab_o (slabs_0 x0 x1) 3 (by omega) slices_S128x512_o0_384_S128x128 x _ rfl rfl _ rfl
  · exact slab_o (slabs_0 x0 x1) 2 (by omega) slices_S128x512_o0_256_S128x128 x _ rfl rfl _ rfl
  · exact slab_o (slabs_0 x0 x1) 1 (by omega) slices_S128x512_o0_128_S128x128 x _ rfl rfl _ rfl
  · exact slab_o (slabs_0 x0 x1) 0 (by omega) slices_S128x512_o0_0_S128x128 x _ rfl rfl _ rfl

set_option maxRecDepth 16384 in
/-- The block output `out0_3` is the block's log-sum-exp. -/
theorem out_l (x0 : Vec Ideal S1x128x2048 .bf16) (x1 : Vec Ideal S1x128x4096 .bf16) :
    out0_3 x0 x1 = lBlk x0 x1 := by
  funext y
  unfold out0_3
  refine View.canon_apply_of_pieces (lBlk x0 x1) _ (fun p hp x => ?_) y (cover0_3 _ _ _ _ _ _ _ _ _ _ _ _ _ _ _ _ y)
  simp only [List.mem_cons, List.mem_nil_iff, or_false] at hp
  rcases hp with rfl | rfl | rfl | rfl | rfl | rfl | rfl | rfl | rfl | rfl | rfl | rfl | rfl | rfl | rfl | rfl
  · exact slab_l (slabs_3 x0 x1) 3 (by omega) slices_S128x512_o0_384_S128x128 x _ rfl rfl _ rfl
  · exact slab_l (slabs_3 x0 x1) 2 (by omega) slices_S128x512_o0_256_S128x128 x _ rfl rfl _ rfl
  · exact slab_l (slabs_3 x0 x1) 1 (by omega) slices_S128x512_o0_128_S128x128 x _ rfl rfl _ rfl
  · exact slab_l (slabs_3 x0 x1) 0 (by omega) slices_S128x512_o0_0_S128x128 x _ rfl rfl _ rfl
  · exact slab_l (slabs_2 x0 x1) 3 (by omega) slices_S128x512_o0_384_S128x128 x _ rfl rfl _ rfl
  · exact slab_l (slabs_2 x0 x1) 2 (by omega) slices_S128x512_o0_256_S128x128 x _ rfl rfl _ rfl
  · exact slab_l (slabs_2 x0 x1) 1 (by omega) slices_S128x512_o0_128_S128x128 x _ rfl rfl _ rfl
  · exact slab_l (slabs_2 x0 x1) 0 (by omega) slices_S128x512_o0_0_S128x128 x _ rfl rfl _ rfl
  · exact slab_l (slabs_1 x0 x1) 3 (by omega) slices_S128x512_o0_384_S128x128 x _ rfl rfl _ rfl
  · exact slab_l (slabs_1 x0 x1) 2 (by omega) slices_S128x512_o0_256_S128x128 x _ rfl rfl _ rfl
  · exact slab_l (slabs_1 x0 x1) 1 (by omega) slices_S128x512_o0_128_S128x128 x _ rfl rfl _ rfl
  · exact slab_l (slabs_1 x0 x1) 0 (by omega) slices_S128x512_o0_0_S128x128 x _ rfl rfl _ rfl
  · exact slab_l (slabs_0 x0 x1) 3 (by omega) slices_S128x512_o0_384_S128x128 x _ rfl rfl _ rfl
  · exact slab_l (slabs_0 x0 x1) 2 (by omega) slices_S128x512_o0_256_S128x128 x _ rfl rfl _ rfl
  · exact slab_l (slabs_0 x0 x1) 1 (by omega) slices_S128x512_o0_128_S128x128 x _ rfl rfl _ rfl
  · exact slab_l (slabs_0 x0 x1) 0 (by omega) slices_S128x512_o0_0_S128x128 x _ rfl rfl _ rfl

end Cert.KernelIdeal.Attn
end
-- ==== Proof.Attn.Array.lean ====
module
public import proofs.«01_k».proof.Proof.Attn.Block
public import proofs.«01_k».proof.Proof.Gen.KernelIdeal.Value
public import Idealize.ShloMosaic.Lib.Pipeline.ValueKit.Point
@[expose] public section
noncomputable section
namespace Cert.KernelIdeal.Attn
open Cert.KernelIdeal Cert.KernelIdeal.Gen Idealize.ShloMosaic Idealize.ShloMosaic.TcCoe Idealize.SL.Sem Cert.Softmax

/-- The score of row `i` of sequence `b` against row `c` of the same sequence, for the head of column
`col`: sixteen residues of 512 columns, each of eight heads of 64 columns; a row of keys and values
has 1024 columns a residue, the keys first. -/
def rowScore (q : FVec Ideal S1024x8192 .bf16) (kv : FVec Ideal S1024x16384 .bf16) (b : Fin 8) (i : Fin 128)
    (col : Fin 8192) (c : Fin 128) : EReal :=
  if c ≤ i then ∑ d : Fin 64, q (ix2 ⟨128 * b.val + i.val, by omega⟩ ⟨64 * (col.val / 64) + d.val, by omega⟩)
    * kv (ix2 ⟨128 * b.val + c.val, by omega⟩ ⟨1024 * (col.val / 512) + 64 * (col.val % 512 / 64) + d.val, by omega⟩)
  else ⊥

/-- The value row `c` of sequence `b` holds for output column `col`. -/
def rowVal (kv : FVec Ideal S1024x16384 .bf16) (b : Fin 8) (col : Fin 8192) (c : Fin 128) : EReal :=
  kv (ix2 ⟨128 * b.val + c.val, by omega⟩ ⟨1024 * (col.val / 512) + 512 + col.val % 512, by omega⟩)

/-- The attention array. -/
def oArr (q : FVec Ideal S1024x8192 .bf16) (kv : FVec Ideal S1024x16384 .bf16) : FVec Ideal S8x128x8192 .f32 := fun y =>
  meanAfter (rowScore q kv (y 0) (y 1) (y 2)) (rowVal kv (y 0) (y 2))

/-- The array of log-sum-exps. -/
def lArr (q : FVec Ideal S1024x8192 .bf16) (kv : FVec Ideal S1024x16384 .bf16) : FVec Ideal S8x128x8192 .f32 := fun y =>
  lse (rowScore q kv (y 0) (y 1) (y 2))

variable (m : (ℓ : Loc nD τ sig) → Buf (Elt Ideal) ℓ) (c : Dev nD)

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, 0, (grid0.coords t 1).val] :=
  (by decide +kernel : ∀ t : Fin grid0.N, _)

/-- A block of queries read as the argument. -/
theorem q_read (t : Fin cfg0.N) (i : Fin 128) (l : Fin 2048) (b : Fin 8) (x : Fin 8192) (hb : b.val = (grid0.coords t 0).val)
    (hx : x.val = 2048 * (grid0.coords t 1).val + l.val) :
    iblk m c 0 t (ix3 0 i l) = m ((c : Thread nD τ).loc main_arg0) (ix2 ⟨128 * b.val + i.val, by omega⟩ x) := by
  blk_simp [iblk]
  entry_read
  pointwise
  blk_ext [idx0 t]

/-- A block of keys and values read as the argument. -/
theorem kv_read (t : Fin cfg0.N) (i : Fin 128) (l : Fin 4096) (b : Fin 8) (x : Fin 16384) (hb : b.val = (grid0.coords t 0).val)
    (hx : x.val = 4096 * (grid0.coords t 1).val + l.val) :
    iblk m c 1 t (ix3 0 i l) = m ((c : Thread nD τ).loc main_arg1) (ix2 ⟨128 * b.val + i.val, by omega⟩ x) := by
  blk_simp [iblk]
  entry_read
  pointwise
  blk_ext [idx1 t]

/-- A block's scores are the arguments' at the block's place. -/
theorem score_read (t : Fin cfg0.N) (i : Fin 128) (l : Fin 2048) (b : Fin 8) (x : Fin 8192)
    (hb : b.val = (grid0.coords t 0).val) (hx : x.val = 2048 * (grid0.coords t 1).val + l.val) :
    blkScore (iblk m c 0 t) (iblk m c 1 t) i l
      = rowScore (m ((c : Thread nD τ).loc main_arg0)) (m ((c : Thread nD τ).loc main_arg1)) b i x := by
  funext k
  unfold blkScore rowScore
  refine if_congr Iff.rfl (Finset.sum_congr rfl fun d _ => ?_) rfl
  rw [q_read m c t i _ b ⟨64 * (x.val / 64) + d.val, by omega⟩ hb (by dsimp only; omega),
    kv_read m c t k _ b ⟨1024 * (x.val / 512) + 64 * (x.val % 512 / 64) + d.val, by omega⟩ hb (by dsimp only; omega)]

/-- A block's values are the argument's at the block's place. -/
theorem val_read (t : Fin cfg0.N) (l : Fin 2048) (b : Fin 8) (x : Fin 8192)
    (hb : b.val = (grid0.coords t 0).val) (hx : x.val = 2048 * (grid0.coords t 1).val + l.val) :
    blkVal (iblk m c 1 t) l = rowVal (m ((c : Thread nD τ).loc main_arg1)) b x := by
  funext k
  unfold blkVal rowVal
  rw [kv_read m c t k _ b ⟨1024 * (x.val / 512) + 512 + x.val % 512, by omega⟩ hb (by dsimp only; omega)]

/-- A block's outputs are the arrays' at the block's place. -/
theorem place (t : Fin cfg0.N) (y : S1x128x2048.Idx) (e : S8x128x8192.Idx) (e0 : (e 0).val = (grid0.coords t 0).val)
    (e1 : (e 1).val = (y 1).val) (e2 : (e 2).val = 2048 * (grid0.coords t 1).val + (y 2).val) :
    oBlk (iblk m c 0 t) (iblk m c 1 t) y
        = oArr (m ((c : Thread nD τ).loc main_arg0)) (m ((c : Thread nD τ).loc main_arg1)) e
      ∧ lBlk (iblk m c 0 t) (iblk m c 1 t) y
        = lArr (m ((c : Thread nD τ).loc main_arg0)) (m ((c : Thread nD τ).loc main_arg1)) e := by
  have e1' : (e 1 : Fin 128) = y 1 := Fin.ext e1
  unfold oBlk oArr lBlk lArr
  have hs := (score_read m c t (y 1) (y 2) (e 0) (e 2) e0 e2).trans (congrArg (rowScore _ _ (e 0) · (e 2)) e1'.symm)
  have hv := val_read m c t (y 2) (e 0) (e 2) e0 e2
  exact ⟨congrArg₂ meanAfter hs hv, congrArg lse hs⟩

/-- After the run, the attention array of the arguments. -/
theorem final_o : (dats m 0 c).arrAt 2 cfg0.N
    = oArr (m ((c : Thread nD τ).loc main_arg0)) (m ((c : Thread nD τ).loc main_arg1)) := by
  refine (dats m 0 c).arrAt_eq_of_covers 2 _ (by decide +kernel) fun t hf y => ?_
  blk_simp
  rw [after0_2, out_o]
  exact (place m c t y _ (by blk_simp [idx2 t]) (by blk_simp [idx2 t])
    (by blk_simp [idx2 t]; omega)).1

/-- After the run, the log-sum-exps of the arguments. -/
theorem final_l : (dats m 0 c).arrAt 3 cfg0.N
    = lArr (m ((c : Thread nD τ).loc main_arg0)) (m ((c : Thread nD τ).loc main_arg1)) := by
  refine (dats m 0 c).arrAt_eq_of_covers 3 _ (by decide +kernel) fun t hf y => ?_
  blk_simp
  rw [after0_3, out_l]
  exact (place m c t y _ (by blk_simp [idx3 t]) (by blk_simp [idx3 t])
    (by blk_simp [idx3 t]; omega)).2

end Cert.KernelIdeal.Attn
end
-- ==== Proof.Attn.Ref.lean ====
module
public import proofs.«01_k».proof.Proof.Gen.ReferenceIdeal.Run
public import Idealize.ShloMosaic.Lib.Pointwise
public import Idealize.ShloMosaic.Lib.WordCmp
public import proofs.«01_k».proof.Proof.Attn.Softmax
@[expose] public section
noncomputable section
namespace Cert.ReferenceIdeal.Attn
open Cert.ReferenceIdeal Cert.ReferenceIdeal.Gen Idealize.ShloMosaic Idealize.ShloMosaic.TcCoe Idealize.SL.Sem Cert.Softmax

/-- Position of tap `j` of query `t`: `t - 16 j`. -/
def tapPos : IVec S2048x129 32 :=
  subi (broadcastInDim S2048x129 ![0, 1] bcast_S2048x1_S2048x129_0_1 (broadcastInDim S2048x1 ![0] bcast_S2048_S2048x1_0 (iotaInDim S2048 32 0)))
    (broadcastInDim S2048x129 ![0, 1] bcast_S1x129_S2048x129_0_1 (muli (broadcastInDim S1x129 ![] bcast_S_S1x129 (constantI S_ 32 16#32)) (broadcastInDim S1x129 ![1] bcast_S129_S1x129_1 (iotaInDim S129 32 0))))
/-- Whether the tap exists. -/
def tapOk : IVec S2048x129 1 := cmpi .sge tapPos (broadcastInDim S2048x129 ![] bcast_S_S2048x129 (constantI S_ 32 0#32))
/-- The position read for a tap: its own, or 0 for a tap before the first position. -/
def tapSafe : IVec S2048x129 32 := maxsi tapPos (broadcastInDim S2048x129 ![] bcast_S_S2048x129 (constantI S_ 32 0#32))
/-- Queries by sequence, position, head and lane. -/
def qAll (q : FVec Ideal S1024x8192 .bf16) : FVec Ideal S8x2048x8x64 .f32 :=
  shapeCast _ (extf .f32 q bitsLt_bf16_f32) shapeCasts_S1024x8192_S8x2048x8x64
/-- Keys by sequence, position, head and lane. -/
def kAll (kv : FVec Ideal S1024x16384 .bf16) : FVec Ideal S8x2048x8x64 .f32 :=
  shapeCast _ (extractStridedSlice S8x2048x1x8x64 ![0, 0, 0, 0, 0] (shapeCast _ (extf .f32 kv bitsLt_bf16_f32) shapeCasts_S1024x16384_S8x2048x2x8x64) slices_S8x2048x2x8x64_S8x2048x1x8x64_0_0_0_0_0) shapeCasts_S8x2048x1x8x64_S8x2048x8x64
/-- Values by sequence, position, head and lane. -/
def vAll (kv : FVec Ideal S1024x16384 .bf16) : FVec Ideal S8x2048x8x64 .f32 :=
  shapeCast _ (extractStridedSlice S8x2048x1x8x64 ![0, 0, 1, 0, 0] (shapeCast _ (extf .f32 kv bitsLt_bf16_f32) shapeCasts_S1024x16384_S8x2048x2x8x64) slices_S8x2048x2x8x64_S8x2048x1x8x64_0_0_1_0_0) shapeCasts_S8x2048x1x8x64_S8x2048x8x64
/-- The rows read at the taps. -/
def taken (x : FVec Ideal S8x2048x8x64 .f32) : FVec Ideal S8x2048x129x8x64 .f32 :=
  Host.gather gather_S8x2048x8x64_S2048x129x1_S8x2048x129x8x64_034_1_n_n_1_2_81864 x (broadcastInDim S2048x129x1 ![0, 1] bcast_S2048x129_S2048x129x1_0_1 tapSafe)
/-- The masked scores. -/
def scores (q k : FVec Ideal S8x2048x8x64 .f32) : FVec Ideal S8x8x2048x129 .f32 :=
  select (broadcastInDim S8x8x2048x129 ![0, 1, 2, 3] bcast_S1x1x2048x129_S8x8x2048x129_0_1_2_3 (broadcastInDim S1x1x2048x129 ![2, 3] bcast_S2048x129_S1x1x2048x129_2_3 tapOk))
    (Host.dotGeneral dot_S8x2048x8x64_S8x2048x129x8x64_S8x8x2048x129_3_4_n_2_021_031 none q (taken k))
    (broadcastInDim S8x8x2048x129 ![] bcast_S_S8x8x2048x129 (id (constant S_ .f32 0xFF800000#32)))
/-- Row maxima. -/
def tops (s : FVec Ideal S8x8x2048x129 .f32) : FVec Ideal S8x8x2048x1 .f32 :=
  broadcastInDim S8x8x2048x1 ![0, 1, 2] bcast_S8x8x2048_S8x8x2048x1_0_1_2 (Host.reduce FloatOps.maximumf s (constant S_ .f32 0xFF800000#32) reducesTo_S8x8x2048x129_S8x8x2048_d3 h_S_)
/-- Row log-sum-exps by given row maxima. -/
def lsesBy (T : FVec Ideal S8x8x2048x1 .f32) (s : FVec Ideal S8x8x2048x129 .f32) : FVec Ideal S8x8x2048x1 .f32 :=
  addf T (Host.log (broadcastInDim S8x8x2048x1 ![0, 1, 2] bcast_S8x8x2048_S8x8x2048x1_0_1_2 (Host.reduceAdd (Host.exp (subf s (broadcastInDim S8x8x2048x129 ![0, 1, 2, 3] bcast_S8x8x2048x1_S8x8x2048x129_0_1_2_3 T))) (constant S_ .f32 0x00000000#32) reducesTo_S8x8x2048x129_S8x8x2048_d3 h_S_)))
/-- Row log-sum-exps. -/
def lses (s : FVec Ideal S8x8x2048x129 .f32) : FVec Ideal S8x8x2048x1 .f32 := lsesBy (tops s) s
/-- The weighted values by given log-sum-exps. -/
def mixedBy (L : FVec Ideal S8x8x2048x1 .f32) (s : FVec Ideal S8x8x2048x129 .f32) (v : FVec Ideal S8x2048x129x8x64 .f32) : FVec Ideal S8x2048x8x64 .f32 :=
  Host.dotGeneral dot_S8x8x2048x129_S8x2048x129x8x64_S8x2048x8x64_3_2_n_4_021_013 none (Host.exp (subf s (broadcastInDim S8x8x2048x129 ![0, 1, 2, 3] bcast_S8x8x2048x1_S8x8x2048x129_0_1_2_3 L))) v
/-- The weighted values. -/
def mixed (s : FVec Ideal S8x8x2048x129 .f32) (v : FVec Ideal S8x2048x129x8x64 .f32) : FVec Ideal S8x2048x8x64 .f32 := mixedBy (lses s) s v

variable (m : (ℓ : Loc nD τ sig) → Buf (Elt Ideal) ℓ) (c : Dev nD)

/-- The reference's attention, by these names. -/
theorem res_o : Value.res_out0 m c = shapeCast S8x128x8192
    (mixed (scores (qAll (m ((c.tc : Thread nD τ).loc main_arg0))) (kAll (m ((c.tc : Thread nD τ).loc main_arg1))))
      (taken (vAll (m ((c.tc : Thread nD τ).loc main_arg1))))) shapeCasts_S8x2048x8x64_S8x128x8192 := by
  unfold Value.res_out0 Value.res_main_v41; rfl

/-- The reference's log-sum-exp, by these names. -/
theorem res_l : Value.res_out1 m c = shapeCast S8x128x8192 (broadcastInDim S8x2048x8x64 ![0, 1, 2, 3] bcast_S8x2048x8x1_S8x2048x8x64_0_1_2_3 (broadcastInDim S8x2048x8x1 ![0, 1, 2] bcast_S8x2048x8_S8x2048x8x1_0_1_2 (transpose S8x2048x8 [0, 2, 1] (shapeCast _
    (lses (scores (qAll (m ((c.tc : Thread nD τ).loc main_arg0))) (kAll (m ((c.tc : Thread nD τ).loc main_arg1)))))
     shapeCasts_S8x8x2048x1_S8x8x2048) transposes_S8x8x2048_S8x2048x8_0_2_1))) shapeCasts_S8x2048x8x64_S8x128x8192 := by
  unfold Value.res_out1 Value.res_main_v44; rfl

/-- The bit pattern of minus infinity is the least value. -/
theorem ofBits_neg_inf : Ideal.ofBits .f32 0xFF800000#32 = ⊥ := by simp [Ideal.ofBits, Ideal.ieee]

/-- A row's maximum. -/
theorem tops_apply (s : FVec Ideal S8x8x2048x129 .f32) (b h : Fin 8) (t : Fin 2048) :
    tops s (ix4 b h t 0) = top fun j : Fin 129 => s (ix4 b h t j) := by
  pointwise [tops]
  rw [ofBits_neg_inf]
  rfl

theorem lsesBy_apply (T : FVec Ideal S8x8x2048x1 .f32) (s : FVec Ideal S8x8x2048x129 .f32) (b h : Fin 8) (t : Fin 2048) :
    lsesBy T s (ix4 b h t 0) = T (ix4 b h t 0) + Ideal.log (∑ j : Fin 129, Ideal.exp (s (ix4 b h t j) - T (ix4 b h t 0))) := by
  pointwise [lsesBy]

/-- A row's log-sum-exp. -/
theorem lses_apply (s : FVec Ideal S8x8x2048x129 .f32) (b h : Fin 8) (t : Fin 2048) :
    lses s (ix4 b h t 0) = lse fun j : Fin 129 => s (ix4 b h t j) := by
  unfold lses
  rw [lsesBy_apply, tops_apply]
  rfl

theorem mixedBy_apply (L : FVec Ideal S8x8x2048x1 .f32) (s : FVec Ideal S8x8x2048x129 .f32) (v : FVec Ideal S8x2048x129x8x64 .f32) (b h : Fin 8) (t : Fin 2048) (d : Fin 64) :
    mixedBy L s v (ix4 b t h d) = ∑ j : Fin 129, Ideal.exp (s (ix4 b h t j) - L (ix4 b h t 0)) * v (ix5 b t j h d) := by
  pointwise [mixedBy]

/-- A row's weighted mean. -/
theorem mixed_apply (s : FVec Ideal S8x8x2048x129 .f32) (v : FVec Ideal S8x2048x129x8x64 .f32) (b h : Fin 8) (t : Fin 2048) (d : Fin 64) :
    mixed s v (ix4 b t h d) = meanBefore (fun j : Fin 129 => s (ix4 b h t j)) (fun j => v (ix5 b t j h d)) := by
  unfold mixed
  rw [mixedBy_apply, lses_apply]
  rfl

/-- The word `t - 16 j` read signed. -/
theorem tap_toInt (t : Fin 2048) (j : Fin 129) :
    (BitVec.ofNat 32 t.val - 16#32 * BitVec.ofNat 32 j.val).toInt = (t.val : ℤ) - 16 * (j.val : ℤ) := by
  rw [BitVec.toInt_eq_toNat_cond]
  simp only [BitVec.toNat_sub, BitVec.toNat_mul, BitVec.toNat_ofNat]
  split <;> omega

theorem tapPos_toInt (t : Fin 2048) (j : Fin 129) : (tapPos (ix2 t j)).toInt = (t.val : ℤ) - 16 * (j.val : ℤ) := by
  pointwise [tapPos]
  exact tap_toInt t j

/-- The position a tap reads. -/
theorem tapSafe_toInt (t : Fin 2048) (j : Fin 129) : (tapSafe (ix2 t j)).toInt.toNat = t.val - 16 * j.val := by
  have h := tapPos_toInt t j
  generalize hw : tapPos (ix2 t j) = w at h
  have e : tapSafe (ix2 t j) = IntOp.maxsi w 0#32 := by
    pointwise [tapSafe]
    rw [hw]
  rw [e]
  simp only [IntOp.maxsi, BitVec.slt, BitVec.sle, BitVec.toInt_zero, decide_eq_true_eq]
  split
  · omega
  · show 0 = t.val - 16 * j.val; omega

/-- A tap exists when its position does not lie before the first. -/
theorem tapOk_apply (t : Fin 2048) (j : Fin 129) : tapOk (ix2 t j) = if 16 * j.val ≤ t.val then 1#1 else 0#1 := by
  have h := tapPos_toInt t j
  generalize hw : tapPos (ix2 t j) = w at h
  have e : tapOk (ix2 t j) = IntOp.cmpi .sge w 0#32 := by
    pointwise [tapOk]
    rw [hw]
  rw [e]
  simp only [IntOp.cmpi, BitVec.slt, BitVec.sle, BitVec.toInt_zero]
  split
  · rw [decide_eq_true (by omega)]; rfl
  · rw [decide_eq_false (by omega)]; rfl

/-- The row a tap reads. -/
theorem taken_apply (x : FVec Ideal S8x2048x8x64 .f32) (b h : Fin 8) (t : Fin 2048) (j : Fin 129) (d : Fin 64) :
    taken x (ix5 b t j h d) = x (ix4 b ⟨t.val - 16 * j.val, by omega⟩ h d) := by
  unfold taken Host.gather
  congr 1
  funext a
  apply Fin.ext
  fin_cases a
  · show 0 + 0 + b.val = b.val; omega
  · show min (broadcastInDim S2048x129x1 ![0, 1] bcast_S2048x129_S2048x129x1_0_1 tapSafe _).toInt.toNat 2047 + 0 + 0 = t.val - 16 * j.val
    have e : ∀ k : S2048x129x1.Idx, k = ix3 t j 0 → (broadcastInDim S2048x129x1 ![0, 1] bcast_S2048x129_S2048x129x1_0_1 tapSafe k).toInt.toNat = t.val - 16 * j.val := by
      intro k hk
      subst hk
      pointwise
      exact tapSafe_toInt t j
    rw [e _ (by funext a; fin_cases a <;> rfl)]
    omega
  · show 0 + 0 + h.val = h.val; omega
  · show 0 + 0 + d.val = d.val; omega

/-- A masked score. -/
theorem scores_apply (q k : FVec Ideal S8x2048x8x64 .f32) (b h : Fin 8) (t : Fin 2048) (j : Fin 129) :
    scores q k (ix4 b h t j) = if 16 * j.val ≤ t.val
      then ∑ d : Fin 64, q (ix4 b t h d) * k (ix4 b ⟨t.val - 16 * j.val, by omega⟩ h d) else ⊥ := by
  pointwise [scores]
  simp only [taken_apply, tapOk_apply]
  split
  · rfl
  · exact ofBits_neg_inf

/-- A query of position `t` is lane `64 h + d` of residue `t mod 16` of row `t / 16`. -/
theorem qAll_apply (q : FVec Ideal S1024x8192 .bf16) (b h : Fin 8) (t : Fin 2048) (d : Fin 64) :
   qAll q (ix4 b t h d) = q (ix2 ⟨128 * b + t / 16, by omega⟩ ⟨512 * (t.val % 16) + 64 * h + d, by omega⟩) := by
  pointwise [qAll]
  exact congrArg q (congrArg₂ ix2 (Fin.ext (by dsimp only; omega)) (Fin.ext (by dsimp only; omega)))

/-- So is a key, its rows having 1024 lanes a residue. -/
theorem kAll_apply (kv : FVec Ideal S1024x16384 .bf16) (b h : Fin 8) (t : Fin 2048) (d : Fin 64) :
   kAll kv (ix4 b t h d) = kv (ix2 ⟨128 * b + t / 16, by omega⟩ ⟨1024 * (t.val % 16) + 64 * h + d, by omega⟩) := by
  pointwise [kAll]
  exact congrArg kv (congrArg₂ ix2 (Fin.ext (by dsimp only; omega)) (Fin.ext (by dsimp only; omega)))

/-- And a value, 512 lanes on. -/
theorem vAll_apply (kv : FVec Ideal S1024x16384 .bf16) (b h : Fin 8) (t : Fin 2048) (d : Fin 64) :
   vAll kv (ix4 b t h d) = kv (ix2 ⟨128 * b + t / 16, by omega⟩ ⟨1024 * (t.val % 16) + 512 + 64 * h + d, by omega⟩) := by
  pointwise [vAll]
  exact congrArg kv (congrArg₂ ix2 (Fin.ext (by dsimp only; omega)) (Fin.ext (by dsimp only; omega)))
end Cert.ReferenceIdeal.Attn
end
-- ==== Proof.Attn.Join.lean ====
module
public import proofs.«01_k».proof.Proof.Attn.Array
public import proofs.«01_k».proof.Proof.Attn.Ref
public import proofs.«01_k».proof.Proof.Gen.Pre_finite
public import proofs.«01_k».proof.Defs
@[expose] public section
noncomputable section
namespace Cert.Attn
open Idealize.ShloMosaic Idealize.ShloMosaic.TcCoe Idealize.SL.Sem Cert.Softmax Cert.KernelIdeal.Attn Cert.ReferenceIdeal.Attn

abbrev SQ : Shape := Cert.KernelIdeal.S1024x8192
abbrev SKV : Shape := Cert.KernelIdeal.S1024x16384

section Rows
variable (q : FVec Ideal SQ .bf16) (kv : FVec Ideal SKV .bf16) (b : Fin 8) (i : Fin 128) (col : Fin 8192)

/-- The position of row `i`'s query for column `col`. -/
def pos : Fin 2048 := ⟨16 * i.val + col.val / 512, by omega⟩
/-- Its head. -/
def head (col : Fin 8192) : Fin 8 := ⟨col.val % 512 / 64, by omega⟩
/-- Its lane. -/
def lan (col : Fin 8192) : Fin 64 := ⟨col.val % 64, by omega⟩

/-- The reference's row of scores, over the taps. -/
def tapScore (j : Fin 129) : EReal :=
  scores (qAll q) (kAll kv) (ix4 b (head col) (pos i col) j)

/-- The row of a tap. -/
def tapRow (j : Fin 129) : Fin 128 := ⟨i.val - j.val, by omega⟩

/-- An existing tap's score is its row's. -/
theorem score_eq (j : Fin 129) (h : j.val ≤ i.val) :
    rowScore q kv b i col (tapRow i j) = tapScore q kv b i col j := by
  unfold rowScore tapScore
  rw [scores_apply, if_pos (show tapRow i j ≤ i from Nat.sub_le _ _), if_pos (by unfold pos; dsimp only; omega)]
  refine Finset.sum_congr rfl fun d _ => ?_
  rw [qAll_apply, kAll_apply]
  refine congrArg₂ (· * ·) (congrArg q (congrArg₂ ix2 (Fin.ext ?_) (Fin.ext ?_))) (congrArg kv (congrArg₂ ix2 (Fin.ext ?_) (Fin.ext ?_)))
  all_goals simp only [pos, head, tapRow]; omega

/-- A tap whose score is not minus infinity exists. -/
theorem le_of_tap (j : Fin 129) (h : tapScore q kv b i col j ≠ ⊥) : j.val ≤ i.val := by
  by_contra hj
  refine h ?_
  unfold tapScore
  rw [scores_apply, if_neg (by unfold pos; dsimp only; omega)]

/-- A row whose score is not minus infinity is not after the query's. -/
theorem le_of_row (c : Fin 128) (h : rowScore q kv b i col c ≠ ⊥) : c ≤ i := by
  by_contra hc
  exact h (if_neg hc)

/-- A real sum read as an extended real is the sum of the readings. -/
theorem coe_sum {ι : Type} [Fintype ι] (f : ι → ℝ) : ((∑ k, f k : ℝ) : EReal) = ∑ k, (f k : EReal) := by
  classical
  have key : ∀ S : Finset ι, ((∑ k ∈ S, f k : ℝ) : EReal) = ∑ k ∈ S, (f k : EReal) := by
    intro S
    induction S using Finset.induction_on with
    | empty => simp
    | insert a S ha ih => rw [Finset.sum_insert ha, Finset.sum_insert ha, EReal.coe_add, ih]
  exact key Finset.univ

/-- A sum of real products is real. -/
theorem sum_real (f g : Fin 64 → EReal) (hf : ∀ d, f d ≠ ⊤ ∧ f d ≠ ⊥) (hg : ∀ d, g d ≠ ⊤ ∧ g d ≠ ⊥) :
    ∃ r : ℝ, ∑ d, f d * g d = (r : EReal) := by
  refine ⟨∑ d, (f d).toReal * (g d).toReal, ?_⟩
  rw [coe_sum]
  refine Finset.sum_congr rfl fun d _ => ?_
  rw [EReal.coe_mul, EReal.coe_toReal (hf d).1 (hf d).2, EReal.coe_toReal (hg d).1 (hg d).2]

variable (hq : ∀ r l, q (ix2 r l) ≠ ⊤ ∧ q (ix2 r l) ≠ ⊥)
  (hk : ∀ (r : Fin 1024) (l : Fin 16384), l.val % 1024 < 512 → kv (ix2 r l) ≠ ⊤ ∧ kv (ix2 r l) ≠ ⊥)

include hq hk in
/-- The score of a row not after the query's is real. -/
theorem row_real (c : Fin 128) (h : c ≤ i) : ∃ r : ℝ, rowScore q kv b i col c = (r : EReal) := by
  unfold rowScore
  rw [if_pos h]
  exact sum_real _ _ (fun d => hq _ _) (fun d => hk _ _ (by dsimp only; omega))

include hq hk in
/-- Kernel and reference agree on a row's log-sum-exp and on its weighted mean. -/
theorem rows_eq :
    lse (rowScore q kv b i col) = lse (tapScore q kv b i col)
      ∧ meanAfter (rowScore q kv b i col) (rowVal kv b col)
        = meanBefore (tapScore q kv b i col) (fun j => taken (vAll kv) (ix5 b (pos i col) j (head col) (lan col))) := by
  have hinj : ∀ a a', tapScore q kv b i col a ≠ ⊥ → tapScore q kv b i col a' ≠ ⊥ → tapRow i a = tapRow i a' → a = a' := by
    intro a a' ha ha' he
    have h1 := le_of_tap q kv b i col a ha
    have h2 := le_of_tap q kv b i col a' ha'
    have h3 : i.val - a.val = i.val - a'.val := congrArg Fin.val he
    exact Fin.ext (by omega)
  have hval : ∀ a, tapScore q kv b i col a ≠ ⊥ → rowScore q kv b i col (tapRow i a) = tapScore q kv b i col a :=
    fun a ha => score_eq q kv b i col a (le_of_tap q kv b i col a ha)
  have hsurj : ∀ c, rowScore q kv b i col c ≠ ⊥ → ∃ a, tapScore q kv b i col a ≠ ⊥ ∧ tapRow i a = c := by
    intro c hc
    have h1 : c.val ≤ i.val := le_of_row q kv b i col c hc
    have h2 : tapRow i ⟨i.val - c.val, by omega⟩ = c := Fin.ext (show i.val - (i.val - c.val) = c.val by omega)
    refine ⟨⟨i.val - c.val, by omega⟩, ?_, h2⟩
    rw [← score_eq q kv b i col _ (Nat.sub_le _ _), h2]
    exact hc
  have htop : ∀ c, rowScore q kv b i col c ≠ ⊤ := by
    intro c
    by_cases hc : c ≤ i
    · obtain ⟨r, hr⟩ := row_real q kv b i col hq hk c hc
      rw [hr]; exact EReal.coe_ne_top r
    · unfold rowScore
      rw [if_neg hc]; exact bot_ne_top
  have hne : ∃ c, rowScore q kv b i col c ≠ ⊥ := by
    obtain ⟨r, hr⟩ := row_real q kv b i col hq hk i le_rfl
    exact ⟨i, by rw [hr]; exact EReal.coe_ne_bot r⟩
  refine ⟨lse_reindex _ _ (tapRow i) hinj hsurj hval hne, mean_reindex _ _ (tapRow i) hinj hsurj hval htop hne _ _ fun a ha => ?_⟩
  have h1 := le_of_tap q kv b i col a ha
  rw [taken_apply, vAll_apply]
  refine congrArg kv (congrArg₂ ix2 (Fin.ext ?_) (Fin.ext ?_))
  all_goals simp only [pos, head, lan, tapRow]; omega

end Rows

section Finite
variable (q : FVec Ideal SQ .bf16) (kv : FVec Ideal SKV .bf16)

/-- A conjunction of two bits is set only when both are. -/
theorem and_bits : ∀ x y : BitVec 1, IntOp.andi x y = 1#1 → x = 1#1 ∧ y = 1#1 := by decide

/-- A conjunction of many bits is set only when each is. -/
theorem all_bits {ι : Type} [Fintype ι] (f : ι → BitVec 1) (h : Finset.univ.fold IntOp.andi 1#1 f = 1#1) (k : ι) :
    f k = 1#1 := by
  classical
  have key : ∀ S : Finset ι, S.fold IntOp.andi 1#1 f = 1#1 → ∀ k ∈ S, f k = 1#1 := by
    intro S
    induction S using Finset.induction_on with
    | empty => intro _ k hk; exact absurd hk (Finset.notMem_empty k)
    | insert a S ha ih =>
      intro hS k hk
      rw [Finset.fold_insert ha] at hS
      obtain ⟨h1, h2⟩ := and_bits _ _ hS
      rcases Finset.mem_insert.mp hk with rfl | hk
      · exact h1
      · exact ih h2 k hk
  exact key Finset.univ h k (Finset.mem_univ k)

/-- An extended real whose absolute value is less than infinity is real. -/
theorem real_of_bit (x : EReal)
    (h : BitVec.ofBool (decide ((FloatOps.absf (φ := .f32) (F := Ideal) x : EReal) < Ideal.ofBits .f32 0x7F800000#32)) = 1#1) :
    x ≠ ⊤ ∧ x ≠ ⊥ := by
  have e : Ideal.ofBits .f32 0x7F800000#32 = ⊤ := by simp [Ideal.ofBits, Ideal.ieee]
  rw [e] at h
  constructor
  · rintro rfl
    revert h
    rw [decide_eq_false (by intro h; exact absurd h (not_lt.mpr (le_max_left _ _)))]
    decide
  · rintro rfl
    revert h
    rw [decide_eq_false (by intro h; exact absurd h (not_lt.mpr (le_max_right _ _)))]
    decide

/-- What the precondition says of the queries and keys. -/
theorem finite_read (h : Cert.Pre_finite.fn (F := Ideal) q kv = fun _ => 1#1) :
    (∀ r l, q (ix2 r l) ≠ ⊤ ∧ q (ix2 r l) ≠ ⊥)
      ∧ ∀ (r : Fin 1024) (l : Fin 16384), l.val % 1024 < 512 → kv (ix2 r l) ≠ ⊤ ∧ kv (ix2 r l) ≠ ⊥ := by
  have h0 := congrFun h ix0
  dsimp only [Cert.Pre_finite.fn] at h0
  pointwise at h0
  obtain ⟨h1, h2⟩ := and_bits _ _ h0
  refine ⟨fun r l => real_of_bit _ (all_bits _ h1 (r, l)), fun r l hl => ?_⟩
  have h3 := real_of_bit _ (all_bits _ h2 (⟨r.val / 128, by omega⟩, ⟨16 * (r.val % 128) + l.val / 1024, by omega⟩, ⟨l.val % 1024, hl⟩))
  have e : ∀ (r' : Fin 1024) (l' : Fin 16384), r'.val = r.val → l'.val = l.val → kv (ix2 r' l') = kv (ix2 r l) :=
    fun r' l' hr hl => congrArg kv (congrArg₂ ix2 (Fin.ext hr) (Fin.ext hl))
  rwa [e _ _ (by dsimp only; omega) (by dsimp only; omega)] at h3

end Finite

section Arrays
variable (m' : (ℓ : Loc Cert.ReferenceIdeal.nD Cert.ReferenceIdeal.τ Cert.ReferenceIdeal.sig) → Buf (Elt Ideal) ℓ) (c : Dev Cert.ReferenceIdeal.nD)
  (q : FVec Ideal SQ .bf16) (kv : FVec Ideal SKV .bf16)
  (eq : m' ((c.tc : Thread Cert.ReferenceIdeal.nD Cert.ReferenceIdeal.τ).loc Cert.ReferenceIdeal.main_arg0) = q)
  (ekv : m' ((c.tc : Thread Cert.ReferenceIdeal.nD Cert.ReferenceIdeal.τ).loc Cert.ReferenceIdeal.main_arg1) = kv)
  (h : Cert.Pre_finite.fn (F := Ideal) q kv = fun _ => 1#1)

include eq ekv h

/-- The reference's attention is the kernel's array. -/
theorem ref_o : Cert.ReferenceIdeal.Value.res_out0 m' c = oArr q kv := by
  obtain ⟨hq, hk⟩ := finite_read q kv h
  rw [res_o, eq, ekv]
  funext y
  obtain ⟨b, i, col, rfl⟩ : ∃ b i col, y = ix3 b i col := ⟨y 0, y 1, y 2, by funext t; fin_cases t <;> rfl⟩
  refine Eq.trans ?_ (rows_eq q kv b i col hq hk).2.symm
  pointwise
  have e1 : (⟨i.val * 16 + col.val / 512, by omega⟩ : Fin 2048) = pos i col := Fin.ext (by unfold pos; dsimp only; omega)
  have e2 : (⟨col.val / 64 % 8, by omega⟩ : Fin 8) = head col := Fin.ext (by unfold head; dsimp only; omega)
  rw [e1, e2, mixed_apply]
  rfl

/-- The reference's log-sum-exp is the kernel's array. -/
theorem ref_l : Cert.ReferenceIdeal.Value.res_out1 m' c = lArr q kv := by
  obtain ⟨hq, hk⟩ := finite_read q kv h
  rw [res_l, eq, ekv]
  funext y
  obtain ⟨b, i, col, rfl⟩ : ∃ b i col, y = ix3 b i col := ⟨y 0, y 1, y 2, by funext t; fin_cases t <;> rfl⟩
  refine Eq.trans ?_ (rows_eq q kv b i col hq hk).1.symm
  pointwise
  have e1 : (⟨i.val * 16 + col.val / 512, by omega⟩ : Fin 2048) = pos i col := Fin.ext (by unfold pos; dsimp only; omega)
  have e2 : (⟨col.val / 64 % 8, by omega⟩ : Fin 8) = head col := Fin.ext (by unfold head; dsimp only; omega)
  rw [e1, e2, lses_apply]
  rfl

end Arrays

/-- From finite queries and keys the kernel's attention and log-sum-exps are the reference's. -/
theorem agree : Cert.algebraic_KernelIdeal_ReferenceIdeal_pre_finite := by
  intro m g m' g' hpre hagree
  refine ⟨fun c => oArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => lArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun _ h c => ⟨(h c).1.trans (final_o m c), (h c).2.1.trans (final_l m c), (h c).2.2⟩)
      (Cert.KernelIdeal.Value.run_blocks (F := Ideal) m g)
  · refine (θ_run Cert.ReferenceIdeal.defs _ _).mono (fun _ h c => ⟨(h c).1.trans ?_, (h c).2.1.trans ?_, (h c).2.2⟩)
      (Cert.ReferenceIdeal.Value.run (F := Ideal) m' g')
    · exact ref_o m' c _ _ (hagree c).1 (hagree c).2 (hpre c)
    · exact ref_l m' c _ _ (hagree c).1 (hagree c).2 (hpre c)

end Cert.Attn
end
-- ==== Proof.Proj.Spec.lean ====
/- The in-projection of the prompt by formulas of its arguments: `n` counts the tokens of all sequences. -/
module
public import Idealize.ShloMosaic.PureOps
public import Idealize.ShloMosaic.Lib.Pointwise
public import proofs.«01_k».proof.Kernel2Ideal
@[expose] public section
noncomputable section
namespace Cert.Proj
open Idealize.ShloMosaic

abbrev SX : Shape := Cert.Kernel2Ideal.S8x2048x1024
abbrev SG : Shape := Cert.Kernel2Ideal.S1x1024
abbrev SW : Shape := Cert.Kernel2Ideal.S1x1024x7168

variable (X : FVec Ideal SX .f32) (G : FVec Ideal SG .f32) (W : FVec Ideal SW .f32)

/-- Entry `k` of token `n`, -/
def tok (n : Fin 16384) (k : Fin 1024) : EReal := X (ix3 ⟨n.val / 2048, by omega⟩ ⟨n.val % 2048, by omega⟩ k)

/-- and of its normed row; -/
def normRow (n : Fin 16384) (k : Fin 1024) : EReal :=
  tok X n k * Ideal.rsqrt (Ideal.div (∑ j, tok X n j * tok X n j) (Ideal.ofBits .f32 0x44800000#32) + Ideal.ofBits .f32 0x358637BD#32)
    * G (ix2 0 k)

/-- column `c` of its projection. -/
def prj (n : Fin 16384) (c : Fin 7168) : EReal := ∑ k : Fin 1024, normRow X G n k * W (ix3 0 k c)

/-- The `i`-th frequency, -/
def freq (i : Fin 8) : EReal :=
  Ideal.pow (Ideal.ofBits .f32 0x48F42400#32) (-(Ideal.div (FloatOps.sitofp (φ := .f32) (F := Ideal) (BitVec.ofNat 32 i.val)) (Ideal.ofBits .f32 0x41000000#32)))

/-- and the angle at position `t`. -/
def angle (t : Fin 2048) (i : Fin 8) : EReal := FloatOps.sitofp (φ := .f32) (F := Ideal) (BitVec.ofNat 32 t.val) * freq i

/-- The position of token `n`. -/
def posOf (n : Fin 16384) : Fin 2048 := ⟨n.val % 2048, by omega⟩

/-- Column `c` of the projection with every head turned: lanes 0 to 7 of a head with lanes 8 to 15. -/
def rope (n : Fin 16384) (c : Fin 7168) : EReal :=
  if h : c.val % 64 < 8 then
    prj X G W n c * Ideal.cos (angle (posOf n) ⟨c.val % 64, h⟩)
      - prj X G W n ⟨c.val + 8, by omega⟩ * Ideal.sin (angle (posOf n) ⟨c.val % 64, h⟩)
  else if h : c.val % 64 < 16 then
    prj X G W n c * Ideal.cos (angle (posOf n) ⟨c.val % 64 - 8, by omega⟩)
      + prj X G W n ⟨c.val - 8, by omega⟩ * Ideal.sin (angle (posOf n) ⟨c.val % 64 - 8, by omega⟩)
  else prj X G W n c

/-- Column `c` of group `g`'s scaled queries, -/
def qSpec (g : ℕ) (hg : g < 3) (n : Fin 16384) (c : Fin 512) : EReal :=
  rope X G W n ⟨512 * g + c.val, by omega⟩ * Ideal.ofBits .f32 0x3E000000#32

/-- and of its keys and values. -/
def kvSpec (g : ℕ) (hg : g < 3) (n : Fin 16384) (c : Fin 1024) : EReal :=
  if c.val < 512 then rope X G W n ⟨1536 + 512 * g + c.val, by omega⟩
  else prj X G W n ⟨3072 + 512 * g + (c.val - 512), by omega⟩

def q0Arr : FVec Ideal Cert.Kernel2Ideal.S16384x512 .bf16 := fun y => qSpec X G W 0 (by omega) (y 0) (y 1)
def q1Arr : FVec Ideal Cert.Kernel2Ideal.S4096x2048 .bf16 := fun y =>
  have h0 : (y 0).val < 4096 := (y 0).isLt
  have h1 : (y 1).val < 2048 := (y 1).isLt
  qSpec X G W 1 (by omega) ⟨4 * (y 0).val + (y 1).val / 512, by omega⟩ ⟨(y 1).val % 512, by omega⟩
def q2Arr : FVec Ideal Cert.Kernel2Ideal.S1024x8192 .bf16 := fun y =>
  have h0 : (y 0).val < 1024 := (y 0).isLt
  have h1 : (y 1).val < 8192 := (y 1).isLt
  qSpec X G W 2 (by omega) ⟨16 * (y 0).val + (y 1).val / 512, by omega⟩ ⟨(y 1).val % 512, by omega⟩
def kv0Arr : FVec Ideal Cert.Kernel2Ideal.S16384x1024 .bf16 := fun y => kvSpec X G W 0 (by omega) (y 0) (y 1)
def kv1Arr : FVec Ideal Cert.Kernel2Ideal.S4096x4096 .bf16 := fun y =>
  have h0 : (y 0).val < 4096 := (y 0).isLt
  have h1 : (y 1).val < 4096 := (y 1).isLt
  kvSpec X G W 1 (by omega) ⟨4 * (y 0).val + (y 1).val / 1024, by omega⟩ ⟨(y 1).val % 1024, by omega⟩
def kv2Arr : FVec Ideal Cert.Kernel2Ideal.S1024x16384 .bf16 := fun y =>
  have h0 : (y 0).val < 1024 := (y 0).isLt
  have h1 : (y 1).val < 16384 := (y 1).isLt
  kvSpec X G W 2 (by omega) ⟨16 * (y 0).val + (y 1).val / 1024, by omega⟩ ⟨(y 1).val % 1024, by omega⟩
/-- The last group's keys and values, a row per column. -/
def ktArr : FVec Ideal Cert.Kernel2Ideal.S8x2x512x2048 .f32 := fun y =>
  have h0 : (y 0).val < 8 := (y 0).isLt
  have h1 : (y 1).val < 2 := (y 1).isLt
  have h2 : (y 2).val < 512 := (y 2).isLt
  have h3 : (y 3).val < 2048 := (y 3).isLt
  kvSpec X G W 2 (by omega) ⟨2048 * (y 0).val + (y 3).val, by omega⟩ ⟨512 * (y 1).val + (y 2).val, by omega⟩
def uArr : FVec Ideal Cert.Kernel2Ideal.S16384x512 .f32 := fun y =>
  have h1 : (y 1).val < 512 := (y 1).isLt
  prj X G W (y 0) ⟨4608 + (y 1).val, by omega⟩
def gateArr : FVec Ideal Cert.Kernel2Ideal.S16384x2048 .f32 := fun y =>
  have h1 : (y 1).val < 2048 := (y 1).isLt
  prj X G W (y 0) ⟨5120 + (y 1).val, by omega⟩

end Cert.Proj
end
-- ==== Proof.Proj.Tile.lean ====
/- The pieces of the in-projection's body, read at an index: the normalised rows, a product with 512 columns of the
   weights, the rotary turn of 512 columns (eight heads of 64, of which the first 16 lanes turn), and the same turn of a
   transposed product. -/
module
public import proofs.«01_k».proof.Proof.Gen.Kernel2Ideal.Skeleton
public import Idealize.ShloMosaic.Lib.Pointwise
public import Idealize.ShloMosaic.Lib.WordCmp
public import Idealize.ShloMosaic.Lib.KernelVsHost
@[expose] public section
noncomputable section
namespace Cert.Kernel2Ideal.Proj
open Cert.Kernel2Ideal Cert.Kernel2Ideal.Gen Idealize.ShloMosaic Idealize.ShloMosaic.TcCoe Idealize.SL.Sem

/-- The turn of column `c` of a row of 512 columns: heads are 64 columns wide and their first 16 columns turn, in pairs
    eight apart; `co` and `si` hold the cosine and the signed sine of each of two heads' columns. -/
def turnAt (f : Fin 512 → EReal) (co si : Fin 128 → EReal) (c : Fin 512) : EReal :=
  if c.val % 64 < 16 then
    f c * co ⟨c.val % 128, by omega⟩
      + (if c.val % 64 < 8 then f ⟨(c.val / 64) * 64 + (c.val % 64 + 8) % 64, by omega⟩
          else f ⟨c.val - 8, by omega⟩) * si ⟨c.val % 128, by omega⟩
  else f c

/-- The lanes whose partner is eight lanes further on, -/
theorem early_apply (r : Fin 256) (l : Fin 128) : k0_pay6 (ix2 r l) = if l.val % 64 < 8 then 1#1 else 0#1 := by
  pointwise [k0_pay6, k0_pay5]
  revert l; decide +kernel

/-- and the lanes that turn at all. -/
theorem turning_apply (r : Fin 256) (l : Fin 128) : k0_pay7 (ix2 r l) = if l.val % 64 < 16 then 1#1 else 0#1 := by
  pointwise [k0_pay7, k0_pay5]
  revert l; decide +kernel

/-- The turn of 128 columns (two heads). -/
def turn128 (co si c : FVec Ideal S256x128 .f32) : FVec Ideal S256x128 .f32 :=
  select k0_pay7 (addf (mulf c co) (mulf (select k0_pay6 (dynamicRotate 1 120#32 none c rotates_S256x128_d1)
    (dynamicRotate 1 8#32 none c rotates_S256x128_d1)) si)) c

theorem turn128_apply (co si c : FVec Ideal S256x128 .f32) (r : Fin 256) (l : Fin 128) :
    turn128 co si c (ix2 r l) = if l.val % 64 < 16 then
      c (ix2 r l) * co (ix2 r l) + (if l.val % 64 < 8 then c (ix2 r ⟨(l.val + 8) % 128, by omega⟩)
        else c (ix2 r ⟨(l.val + 120) % 128, by omega⟩)) * si (ix2 r l) else c (ix2 r l) := by
  have h1 : dynamicRotate 1 120#32 none c rotates_S256x128_d1 (ix2 r l) = c (ix2 r ⟨(l.val + 8) % 128, by omega⟩) :=
    dynamicRotate_apply 1 120#32 c rotates_S256x128_d1 _ _ (fun b => by
      fin_cases b
      · rfl
      · show (l.val + 8) % 128 = (l.val + 128 - 120) % 128; omega)
  have h2 : dynamicRotate 1 8#32 none c rotates_S256x128_d1 (ix2 r l) = c (ix2 r ⟨(l.val + 120) % 128, by omega⟩) :=
    dynamicRotate_apply 1 8#32 c rotates_S256x128_d1 _ _ (fun b => by
      fin_cases b
      · rfl
      · show (l.val + 120) % 128 = (l.val + 128 - 8) % 128; omega)
  pointwise [turn128]
  simp only [early_apply, turning_apply, h1, h2]
  by_cases a : l.val % 64 < 16 <;> by_cases b : l.val % 64 < 8 <;> simp [a, b, Scalar.select]

/-- The turn of 512 columns (eight heads), two heads at a time. -/
def turned (co si : FVec Ideal S256x128 .f32) (T : FVec Ideal S256x512 .f32) : FVec Ideal S256x512 .f32 :=
  concatenate S256x512 1 [⟨S256x128, turn128 co si (extractStridedSlice S256x128 ![0, 0] T slices_S256x512_o0_0_S256x128)⟩,
    ⟨S256x128, turn128 co si (extractStridedSlice S256x128 ![0, 128] T slices_S256x512_o0_128_S256x128)⟩,
    ⟨S256x128, turn128 co si (extractStridedSlice S256x128 ![0, 256] T slices_S256x512_o0_256_S256x128)⟩,
    ⟨S256x128, turn128 co si (extractStridedSlice S256x128 ![0, 384] T slices_S256x512_o0_384_S256x128)⟩]
    concatenates_S256x128_S256x128_S256x128_S256x128_S256x512_d1

/-- Two heads' turn is the whole row's turn on their columns. -/
theorem turn128_slice (co si : FVec Ideal S256x128 .f32) (T : FVec Ideal S256x512 .f32) (r : Fin 256) (j : ℕ) (hj : j < 4)
    (hs : S256x512.Slices ![0, 128 * j] S256x128) (l : Fin 128) :
    turn128 co si (extractStridedSlice S256x128 ![0, 128 * j] T hs) (ix2 r l)
      = turnAt (fun c => T (ix2 r c)) (fun l => co (ix2 r l)) (fun l => si (ix2 r l)) ⟨128 * j + l.val, by omega⟩ := by
  have hx : ∀ m : Fin 128, extractStridedSlice S256x128 ![0, 128 * j] T hs (ix2 r m)
      = T (ix2 r ⟨128 * j + m.val, by omega⟩) := fun m =>
    extractStridedSlice_apply _ T hs _ _ fun a => by
      fin_cases a
      · show r.val = 0 + r.val; omega
      · rfl
  have e1 : (128 * j + l.val) % 64 = l.val % 64 := by omega
  have e2 : (⟨(128 * j + l.val) % 128, by omega⟩ : Fin 128) = l := Fin.ext (by dsimp only; omega)
  rw [turn128_apply, hx, hx, hx]
  unfold turnAt
  simp only [e1, e2]
  by_cases h1 : l.val % 64 < 16
  · by_cases h2 : l.val % 64 < 8
    · simp only [h1, h2, if_true]
      congr 4
      exact Fin.ext (by dsimp only; omega)
    · simp only [h1, h2, if_true, if_false]
      congr 4
      exact Fin.ext (by dsimp only; omega)
  · simp only [h1, if_false]

theorem turned_apply (co si : FVec Ideal S256x128 .f32) (T : FVec Ideal S256x512 .f32) (r : Fin 256) (c : Fin 512) :
    turned co si T (ix2 r c)
      = turnAt (fun c => T (ix2 r c)) (fun l => co (ix2 r l)) (fun l => si (ix2 r l)) c := by
  have at' := fun j hj hs l (e : 128 * j + l.val = c.val) => (turn128_slice co si T r j hj hs l).trans
    (congrArg (turnAt _ _ _) (Fin.ext e))
  pointwise [turned]
  split
  · exact at' 0 (by omega) _ _ (by show 128 * 0 + c.val = _; omega)
  split
  · exact at' 1 (by omega) _ _ (by show 128 * 1 + (c.val - 128) = _; omega)
  split
  · exact at' 2 (by omega) _ _ (by show 128 * 2 + (c.val - 128 - 128) = _; omega)
  · exact at' 3 (by omega) _ _ (by show 128 * 3 + (c.val - 128 - 128 - 128) = _; omega)

/-- The normalised rows: each row over the root of its mean square, times the weights of the norm. -/
def normed (x : Vec Ideal S256x1024 .f32) (g : Vec Ideal S1x1024 .f32) : FVec Ideal S256x1024 .bf16 :=
  k0_pay10 (k0_pay8 x) (k0_pay9 g)

theorem normed_apply (x : Vec Ideal S256x1024 .f32) (g : Vec Ideal S1x1024 .f32) (r : Fin 256) (k : Fin 1024) :
    normed x g (ix2 r k) = x (ix2 r k) * Ideal.rsqrt (Ideal.div (∑ j, x (ix2 r j) * x (ix2 r j))
      (Ideal.ofBits .f32 1149239296#32) + Ideal.ofBits .f32 897988541#32) * g (ix2 0 k) := by
  pointwise [normed, k0_pay10, k0_pay8, k0_pay9]

/-- A product of the normalised rows with 512 columns of the weights. -/
theorem product_apply (xn : FVec Ideal S256x1024 .bf16) (w : Vec Ideal S1024x512 .bf16) (r : Fin 256) (c : Fin 512) :
    k0_pay13 (F := Ideal) xn w (ix2 r c) = ∑ k : Fin 1024, xn (ix2 r k) * w (ix2 k c) := by
  pointwise [k0_pay13]

end Cert.Kernel2Ideal.Proj
end
-- ==== Proof.Proj.Stage.lean ====
/- A tile of 256 rows by 512 columns kept in a scratch buffer in four slices of 128 columns, and read back every fourth or
   sixteenth row from a given row on. -/
module
public import proofs.«01_k».proof.Proof.Proj.Tile
@[expose] public section
noncomputable section
namespace Cert.Kernel2Ideal.Proj
open Cert.Kernel2Ideal Cert.Kernel2Ideal.Gen Idealize.ShloMosaic Idealize.ShloMosaic.TcCoe Idealize.SL.Sem

theorem slices_at (o : ℕ) (h : o + 128 ≤ 512) : S256x512.Slices ![0, o] S256x128 :=
  ⟨rfl, fun a => by
    fin_cases a
    · show 0 + 256 ≤ 256; omega
    · exact h⟩

theorem plane_at (j : ℕ) (h : j < 4) : ∀ a, (![j, 0, 0] : Fin 3 → ℕ) a + S1x256x128.size a ≤ S4x256x128.size a := fun a => by
  fin_cases a
  · show j + 1 ≤ 4; omega
  · show 0 + 256 ≤ 256; omega
  · show 0 + 128 ≤ 128; omega

/-- The stores of a tile's slices, the last slice's first. -/
def staged (T : FVec Ideal S256x512 .f32) : List (View.Piece (Elt Ideal) S4x256x128 .f32) :=
  List.ofFn fun j : Fin 4 => ⟨Rect.unit ![3 - j.val, 0, 0] S1x256x128.size (plane_at _ (by omega)),
    shapeCast S1x256x128 (extractStridedSlice S256x128 ![0, 128 * (3 - j.val)] T (slices_at _ (by omega)))
      shapeCasts_S256x128_S1x256x128⟩

/-- The scratch buffer's contents after them. -/
def stagedAt (T : FVec Ideal S256x512 .f32) : Vec Ideal S4x256x128 .f32 := fun y => T (ix2 (y 1) ⟨128 * (y 0).val + (y 2).val, by
  have h0 : (y 0).val < 4 := (y 0).isLt
  have h2 : (y 2).val < 128 := (y 2).isLt
  omega⟩)

theorem staged_apply (T : FVec Ideal S256x512 .f32) (j : Fin 4) (i : Fin 256) (l : Fin 128) :
    View.canon (staged T) (ix3 j i l) = T (ix2 i ⟨128 * j.val + l.val, by omega⟩) := by
  refine View.canon_apply_of_pieces (Val := Elt Ideal) (S := S4x256x128) (e := .f32) (stagedAt T) _ (fun p hp x => ?_) _ ?_
  · obtain ⟨k, rfl⟩ := (List.mem_ofFn' _ _).mp hp
    obtain ⟨a, i, l, rfl⟩ : ∃ (a : Fin 1) (i : Fin 256) (l : Fin 128), x = ix3 a i l :=
      ⟨x 0, x 1, x 2, by funext t; fin_cases t <;> rfl⟩
    pointwise
    refine congrArg T (funext fun b => Fin.ext ?_)
    fin_cases b
    · show i.val = 0 + 1 * i.val; omega
    · show 128 * (3 - k.val) + l.val = 128 * (3 - k.val + 1 * a.val) + (0 + 1 * l.val)
      omega
  · refine ⟨_, (List.mem_ofFn' _ _).mpr ⟨⟨3 - j.val, by omega⟩, rfl⟩, ?_⟩
    refine (Rect.mem_set_unit (inb := plane_at _ (by omega))).mpr fun a => ?_
    fin_cases a
    · show 3 - (3 - j.val) ≤ j.val ∧ j.val < 3 - (3 - j.val) + 1; omega
    · show 0 ≤ i.val ∧ i.val < 0 + 256; omega
    · show 0 ≤ l.val ∧ l.val < 0 + 128; omega

theorem rows4_at (j r : ℕ) (hj : j < 4) (hr : r < 4) (a : Fin 3) :
    S1x64x128.size a = 0 ∨ (![j, r, 0] : Fin 3 → ℕ) a + (![1, 4, 1] : Fin 3 → ℕ) a * (S1x64x128.size a - 1) < S4x256x128.size a := by
  right
  fin_cases a
  · show j + 1 * (1 - 1) < 4; omega
  · show r + 4 * (64 - 1) < 256; omega
  · show 0 + 1 * (128 - 1) < 128; omega

theorem rows16_at (j r : ℕ) (hj : j < 4) (hr : r < 16) (a : Fin 3) :
    S1x16x128.size a = 0 ∨ (![j, r, 0] : Fin 3 → ℕ) a + (![1, 16, 1] : Fin 3 → ℕ) a * (S1x16x128.size a - 1) < S4x256x128.size a := by
  right
  fin_cases a
  · show j + 1 * (1 - 1) < 4; omega
  · show r + 16 * (16 - 1) < 256; omega
  · show 0 + 1 * (128 - 1) < 128; omega

section Rows
variable {sp : Space} (v : View sig .tc sp S4x256x128 .f32) (T : FVec Ideal S256x512 .f32)

/-- Every fourth row of a slice from row `r` on, -/
def rows4 (j r : ℕ) (hj : j < 4) (hr : r < 4) : Vec Ideal S1x64x128 .f32 :=
  v.readCov (staged T) ⟨![j, r, 0], S1x64x128.size, ![1, 4, 1], rows4_at j r hj hr⟩

/-- every sixteenth, -/
def rows16 (j r : ℕ) (hj : j < 4) (hr : r < 16) : Vec Ideal S1x16x128 .f32 :=
  v.readCov (staged T) ⟨![j, r, 0], S1x16x128.size, ![1, 16, 1], rows16_at j r hj hr⟩

/-- and the four slices' rows beside each other. -/
def gather4 (r : ℕ) (hr : r < 4) : FVec Ideal S64x512 .bf16 :=
  k0_pay19 (rows4 v T 0 r (by omega) hr) (rows4 v T 1 r (by omega) hr) (rows4 v T 2 r (by omega) hr)
    (rows4 v T 3 r (by omega) hr)

def gather16 (r : ℕ) (hr : r < 16) : FVec Ideal S16x512 .bf16 :=
  k0_pay34 (rows16 v T 0 r (by omega) hr) (rows16 v T 1 r (by omega) hr) (rows16 v T 2 r (by omega) hr)
    (rows16 v T 3 r (by omega) hr)

theorem rows4_apply (j r : ℕ) (hj : j < 4) (hr : r < 4) (i : Fin 64) (l : Fin 128) :
    rows4 v T j r hj hr (ix3 0 i l) = T (ix2 ⟨4 * i.val + r, by omega⟩ ⟨128 * j + l.val, by omega⟩) := by
  unfold rows4
  rw [View.readCov_eq_canon']
  refine Eq.trans (congrArg (View.canon (staged T)) (funext fun a => Fin.ext ?_))
    (staged_apply T ⟨j, hj⟩ ⟨4 * i.val + r, by omega⟩ l)
  fin_cases a
  · show j + 1 * 0 = j; omega
  · show r + 4 * i.val = 4 * i.val + r; omega
  · show 0 + 1 * l.val = l.val; omega

theorem rows16_apply (j r : ℕ) (hj : j < 4) (hr : r < 16) (i : Fin 16) (l : Fin 128) :
    rows16 v T j r hj hr (ix3 0 i l) = T (ix2 ⟨16 * i.val + r, by omega⟩ ⟨128 * j + l.val, by omega⟩) := by
  unfold rows16
  rw [View.readCov_eq_canon']
  refine Eq.trans (congrArg (View.canon (staged T)) (funext fun a => Fin.ext ?_))
    (staged_apply T ⟨j, hj⟩ ⟨16 * i.val + r, by omega⟩ l)
  fin_cases a
  · show j + 1 * 0 = j; omega
  · show r + 16 * i.val = 16 * i.val + r; omega
  · show 0 + 1 * l.val = l.val; omega

theorem gather4_apply (r : ℕ) (hr : r < 4) (i : Fin 64) (c : Fin 512) :
    gather4 v T r hr (ix2 i c) = T (ix2 ⟨4 * i.val + r, by omega⟩ c) := by
  have at' := fun j hj l (e : 128 * j + l.val = c.val) => (rows4_apply v T j r hj hr i l).trans
    (congrArg (fun c => T (ix2 _ c)) (Fin.ext e))
  unfold gather4
  generalize rows4 v T = R at *
  pointwise [k0_pay19]
  split
  · exact at' 0 (by omega) _ (by show 128 * 0 + c.val = _; omega)
  split
  · exact at' 1 (by omega) _ (by show 128 * 1 + (c.val - 128) = _; omega)
  split
  · exact at' 2 (by omega) _ (by show 128 * 2 + (c.val - 128 - 128) = _; omega)
  · exact at' 3 (by omega) _ (by show 128 * 3 + (c.val - 128 - 128 - 128) = _; omega)

theorem gather16_apply (r : ℕ) (hr : r < 16) (i : Fin 16) (c : Fin 512) :
    gather16 v T r hr (ix2 i c) = T (ix2 ⟨16 * i.val + r, by omega⟩ c) := by
  have at' := fun j hj l (e : 128 * j + l.val = c.val) => (rows16_apply v T j r hj hr i l).trans
    (congrArg (fun c => T (ix2 _ c)) (Fin.ext e))
  unfold gather16
  generalize rows16 v T = R at *
  pointwise [k0_pay34]
  split
  · exact at' 0 (by omega) _ (by show 128 * 0 + c.val = _; omega)
  split
  · exact at' 1 (by omega) _ (by show 128 * 1 + (c.val - 128) = _; omega)
  split
  · exact at' 2 (by omega) _ (by show 128 * 2 + (c.val - 128 - 128) = _; omega)
  · exact at' 3 (by omega) _ (by show 128 * 3 + (c.val - 128 - 128 - 128) = _; omega)

end Rows

end Cert.Kernel2Ideal.Proj
end
-- ==== Proof.Proj.Rows.lean ====
/- The transposed keys of a tile of `T` tokens: rows are the columns of eight heads, 64 rows each, of which the first sixteen
   turn with the token's angles. -/
module
public import proofs.«01_k».proof.Proof.Proj.Spec
public import Idealize.ShloMosaic.Lib.Pointwise
@[expose] public section
noncomputable section
namespace Cert.Proj
open Idealize.ShloMosaic

/-- `n` rows of `T` tokens. -/
abbrev Rows (n T : ℕ) : Shape := ⟨2, ![n, T]⟩

theorem rows_at {T : ℕ} (o n : ℕ) (h : o + n ≤ 512) : (Rows 512 T).Slices ![o, 0] (Rows n T) :=
  ⟨rfl, fun a => by
    fin_cases a
    · exact h
    · exact (Nat.zero_add T).le⟩

section Turn
variable {T : ℕ} (co si : FVec Ideal (Rows 8 T) .f32) (P : FVec Ideal (Rows 512 T) .f32)

/-- Head `h`'s first eight rows, its second eight, -/
def firstRows (h : Fin 8) : FVec Ideal (Rows 8 T) .f32 := extractStridedSlice (Rows 8 T) ![64 * h.val, 0] P (rows_at _ 8 (by omega))
def secondRows (h : Fin 8) : FVec Ideal (Rows 8 T) .f32 := extractStridedSlice (Rows 8 T) ![64 * h.val + 8, 0] P (rows_at _ 8 (by omega))

/-- and its 64 rows turned. -/
def headRows (h : Fin 8) : List ((s : Shape) × (s.Idx → Ideal .f32)) :=
  [⟨Rows 8 T, subf (mulf (firstRows P h) co) (mulf (secondRows P h) si)⟩,
    ⟨Rows 8 T, addf (mulf (secondRows P h) co) (mulf (firstRows P h) si)⟩,
    ⟨Rows 48 T, extractStridedSlice (Rows 48 T) ![64 * h.val + 16, 0] P (rows_at _ 48 (by omega))⟩]

/-- The shapes of the 24 pieces, -/
def headShapes (T : ℕ) : List Shape := (List.replicate 8 [Rows 8 T, Rows 8 T, Rows 48 T]).flatten

theorem headShapes_eq : (List.ofFn (headRows co si P)).flatten.map (·.1) = headShapes T := rfl

/-- how many rows they have, -/
def headSizes : List ℕ := (List.replicate 8 [8, 8, 48]).flatten

theorem headSizes_eq : (headShapes T).map (fun s => if h : s.rank = (Rows 512 T).rank then s.size ((0 : Fin 2).cast h.symm) else 0) = headSizes := by
  unfold headShapes headSizes
  rw [List.map_flatten, List.map_replicate]
  rfl

/-- which make up 512. -/
theorem headShapes_fit : Shape.Concatenates (headShapes T) (Rows 512 T) 0 :=
  ⟨by show 2 ≤ 24; omega, fun s hs => by
    obtain ⟨l, hl, hs⟩ := List.mem_flatten.mp hs
    obtain rfl := List.eq_of_mem_replicate hl
    have e : s = Rows 8 T ∨ s = Rows 48 T := by
      rcases List.mem_cons.mp hs with h | hs
      · exact .inl h
      rcases List.mem_cons.mp hs with h | hs
      · exact .inl h
      · exact .inr (List.mem_singleton.mp hs)
    rcases e with rfl | rfl <;>
    · refine ⟨rfl, fun b hb => ?_⟩
      fin_cases b
      · exact absurd rfl hb
      · rfl, (congrArg List.sum headSizes_eq).trans (by decide +kernel : headSizes.sum = 512)⟩

def turnedRows : FVec Ideal (Rows 512 T) .f32 :=
  concatenate (Rows 512 T) 0 (List.ofFn (headRows co si P)).flatten headShapes_fit

/-- The rows before the `k`-th piece. -/
theorem rowsBefore (k n : ℕ) (e : (headSizes.take k).sum = n) :
    ((((List.ofFn (headRows co si P)).flatten.take k).map (·.1)).map fun s =>
      if h : s.rank = (Rows 512 T).rank then s.size ((0 : Fin 2).cast h.symm) else 0).sum = n := by
  rw [List.map_take, List.map_take, headShapes_eq, headSizes_eq]
  exact e

theorem rows_apply (o n : ℕ) (h : o + n ≤ 512) (i : Fin n) (t : Fin T) :
    extractStridedSlice (Rows n T) ![o, 0] P (rows_at o n h) (ix2 i t) = P (ix2 ⟨o + i.val, by omega⟩ t) := by
  refine extractStridedSlice_apply _ P _ _ _ fun a => ?_
  fin_cases a
  · rfl
  · exact (Nat.zero_add t.val).symm

theorem firstRows_apply (h : Fin 8) (i : Fin 8) (t : Fin T) :
    firstRows P h (ix2 i t) = P (ix2 ⟨64 * h.val + i.val, by omega⟩ t) :=
  rows_apply P _ 8 (by omega) i t

theorem secondRows_apply (h : Fin 8) (i : Fin 8) (t : Fin T) :
    secondRows P h (ix2 i t) = P (ix2 ⟨64 * h.val + 8 + i.val, by omega⟩ t) :=
  rows_apply P _ 8 (by omega) i t

/-- The first eight rows of a head, -/
theorem turnedRows_first (h : Fin 8) (i : Fin 8) (t : Fin T) :
    turnedRows co si P (ix2 ⟨64 * h.val + i.val, by omega⟩ t)
      = P (ix2 ⟨64 * h.val + i.val, by omega⟩ t) * co (ix2 i t)
        - P (ix2 ⟨64 * h.val + 8 + i.val, by omega⟩ t) * si (ix2 i t) := by
  rw [← firstRows_apply P h i t, ← secondRows_apply P h i t]
  refine (concatenate_apply_piece (t := Rows 512 T) 0 (List.ofFn (headRows co si P)).flatten _ _ (3 * h.val) (by show _ < 24; omega) (Rows 8 T)
    (subf (mulf (firstRows P h) co) (mulf (secondRows P h) si)) (by fin_cases h <;> rfl) rfl (64 * h.val)
    (rowsBefore co si P _ _ (by revert h; decide +kernel)) (ix2 i t) (fun b hb => ?_) rfl).trans ?_
  · fin_cases b
    · exact absurd rfl hb
    · rfl
  · pointwise

/-- the second eight, -/
theorem turnedRows_second (h : Fin 8) (i : Fin 8) (t : Fin T) :
    turnedRows co si P (ix2 ⟨64 * h.val + 8 + i.val, by omega⟩ t)
      = P (ix2 ⟨64 * h.val + 8 + i.val, by omega⟩ t) * co (ix2 i t)
        + P (ix2 ⟨64 * h.val + i.val, by omega⟩ t) * si (ix2 i t) := by
  rw [← firstRows_apply P h i t, ← secondRows_apply P h i t]
  refine (concatenate_apply_piece (t := Rows 512 T) 0 (List.ofFn (headRows co si P)).flatten _ _ (3 * h.val + 1) (by show _ < 24; omega) (Rows 8 T)
    (addf (mulf (secondRows P h) co) (mulf (firstRows P h) si)) (by fin_cases h <;> rfl) rfl (64 * h.val + 8)
    (rowsBefore co si P _ _ (by revert h; decide +kernel)) (ix2 i t) (fun b hb => ?_) rfl).trans ?_
  · fin_cases b
    · exact absurd rfl hb
    · rfl
  · pointwise

/-- and the rest. -/
theorem turnedRows_rest (h : Fin 8) (i : Fin 48) (t : Fin T) :
    turnedRows co si P (ix2 ⟨64 * h.val + 16 + i.val, by omega⟩ t) = P (ix2 ⟨64 * h.val + 16 + i.val, by omega⟩ t) := by
  refine (concatenate_apply_piece (t := Rows 512 T) 0 (List.ofFn (headRows co si P)).flatten _ _ (3 * h.val + 2) (by show _ < 24; omega) (Rows 48 T)
    (extractStridedSlice (Rows 48 T) ![64 * h.val + 16, 0] P (rows_at _ 48 (by omega))) (by fin_cases h <;> rfl) rfl
    (64 * h.val + 16) (rowsBefore co si P _ _ (by revert h; decide +kernel)) (ix2 i t) (fun b hb => ?_) rfl).trans ?_
  · fin_cases b
    · exact absurd rfl hb
    · rfl
  · exact rows_apply P _ 48 (by omega) i t

/-- Column `c` of eight heads' columns `p` turned by a token's cosines and sines: in a head's 64, the first eight turn with the
   second eight. -/
def turnCol (p : Fin 512 → EReal) (co si : Fin 8 → EReal) (c : Fin 512) : EReal :=
  if h : c.val % 64 < 8 then p c * co ⟨c.val % 64, h⟩ - p ⟨c.val + 8, by omega⟩ * si ⟨c.val % 64, h⟩
  else if h : c.val % 64 < 16 then
    p c * co ⟨c.val % 64 - 8, by omega⟩ + p ⟨c.val - 8, by omega⟩ * si ⟨c.val % 64 - 8, by omega⟩
  else p c

theorem turnedRows_apply (c : Fin 512) (t : Fin T) :
    turnedRows co si P (ix2 c t) = turnCol (fun c => P (ix2 c t)) (fun i => co (ix2 i t)) (fun i => si (ix2 i t)) c := by
  unfold turnCol
  split
  · next h =>
    have e : c = ⟨64 * (c.val / 64) + c.val % 64, by omega⟩ := Fin.ext (by show c.val = 64 * (c.val / 64) + c.val % 64; omega)
    refine (congrArg (fun c => turnedRows co si P (ix2 c t)) e).trans
      ((turnedRows_first co si P ⟨c.val / 64, by omega⟩ ⟨c.val % 64, h⟩ t).trans ?_)
    exact congrArg₂ (fun a b => P (ix2 a t) * _ - P (ix2 b t) * _) e.symm
      (Fin.ext (by show 64 * (c.val / 64) + 8 + c.val % 64 = c.val + 8; omega))
  · split
    · next h' h =>
      have e : c = ⟨64 * (c.val / 64) + 8 + (c.val % 64 - 8), by omega⟩ :=
        Fin.ext (by show c.val = 64 * (c.val / 64) + 8 + (c.val % 64 - 8); omega)
      refine (congrArg (fun c => turnedRows co si P (ix2 c t)) e).trans
        ((turnedRows_second co si P ⟨c.val / 64, by omega⟩ ⟨c.val % 64 - 8, by omega⟩ t).trans ?_)
      exact congrArg₂ (fun a b => P (ix2 a t) * _ + P (ix2 b t) * _) e.symm
        (Fin.ext (by show 64 * (c.val / 64) + (c.val % 64 - 8) = c.val - 8; omega))
    · next h' h =>
      have e : c = ⟨64 * (c.val / 64) + 16 + (c.val % 64 - 16), by omega⟩ :=
        Fin.ext (by show c.val = 64 * (c.val / 64) + 16 + (c.val % 64 - 16); omega)
      refine (congrArg (fun c => turnedRows co si P (ix2 c t)) e).trans
        ((turnedRows_rest co si P ⟨c.val / 64, by omega⟩ ⟨c.val % 64 - 16, by omega⟩ t).trans ?_)
      exact congrArg (fun a => P (ix2 a t)) e.symm

end Turn

/-- Columns of the projection turn to the columns of the turned projection. -/
theorem turnCol_eq (X : FVec Ideal SX .f32) (G : FVec Ideal SG .f32) (W : FVec Ideal SW .f32) (n : Fin 16384) (o : ℕ) (ho : o + 512 ≤ 7168)
    (h64 : o % 64 = 0) (p : Fin 512 → EReal) (co si : Fin 8 → EReal) (hp : ∀ c, p c = prj X G W n ⟨o + c.val, by omega⟩)
    (hc : ∀ i, co i = Ideal.cos (angle (posOf n) i)) (hs : ∀ i, si i = Ideal.sin (angle (posOf n) i)) (c : Fin 512) :
    turnCol p co si c = rope X G W n ⟨o + c.val, by omega⟩ := by
  unfold turnCol rope
  have e : (o + c.val) % 64 = c.val % 64 := by omega
  simp only [hp, hc, hs, e]
  split
  · rfl
  · split
    · next b a =>
      have e' : (⟨o + (c.val - 8), by omega⟩ : Fin 7168) = ⟨o + c.val - 8, by omega⟩ :=
        Fin.ext (by show o + (c.val - 8) = o + c.val - 8; omega)
      exact congrArg (fun l => prj X G W n _ * _ + prj X G W n l * _) e'
    · rfl

end Cert.Proj
end
-- ==== Proof.Proj.Stores.lean ====
/- What the in-projection's body leaves in each output's block, as values of the input blocks. The stores of an output are
   the sixteen, four or single tiles its run lists, which are named here first: each list is the run's by evaluation. -/
module
public import proofs.«01_k».proof.Proof.Proj.Stage
public import proofs.«01_k».proof.Proof.Proj.Rows
public import proofs.«01_k».proof.Proof.Gen.Kernel2Ideal.Frame
@[expose] public section
set_option maxRecDepth 16384
noncomputable section
namespace Cert.Kernel2Ideal.Proj
open Cert.Kernel2Ideal Cert.Kernel2Ideal.Gen Idealize.ShloMosaic Idealize.ShloMosaic.TcCoe Idealize.SL.Sem Cert.Proj

/-- A tile times an eighth, the queries' scale. -/
def scaled (T : FVec Ideal S256x512 .f32) : FVec Ideal S256x512 .f32 :=
  mulf T (broadcast S256x512 (Scalar.ofBits .f32 0x3E000000#32))

/-- What a load of box `B` reads of a whole memref that holds `x`. -/
abbrev rd {s : Shape} {e : EltTy} {sp : Space} (a : Memref sig .tc sp s e) (h : a.IsWhole) (x : Vec Ideal s e)
    (B : LoadRect s) : B.shape.Idx → Elt Ideal e := View.readAt (Elt Ideal) a.view B (h.unread x)

theorem col_at (n : ℕ) (s : Fin 2 → ℕ) (m w o : ℕ) (hs : s = ![m, w]) (h : o + w ≤ n) (a : Fin 2) :
    (![0, o] : Fin 2 → ℕ) a + s a ≤ (![m, n] : Fin 2 → ℕ) a := by
  subst hs
  fin_cases a
  · show 0 + m ≤ m; omega
  · exact h

section Run
variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S1024x7168 .bf16)
  (harg3 : arg3.IsWhole) (arg4 : Memref sig .tc .vmem S256x128 .f32) (harg4 : arg4.IsWhole)
  (arg5 : Memref sig .tc .vmem S256x128 .f32) (harg5 : arg5.IsWhole) (arg6 : Memref sig .tc .vmem S2x512x1024 .bf16)
  (harg6 : arg6.IsWhole) (arg7 : Memref sig .tc .vmem S8x256 .f32) (harg7 : arg7.IsWhole)
  (arg8 : Memref sig .tc .vmem S8x256 .f32) (harg8 : arg8.IsWhole) (arg9 : Memref sig .tc .vmem S256x512 .bf16)
  (harg9 : arg9.IsWhole) (arg10 : Memref sig .tc .vmem S64x2048 .bf16) (harg10 : arg10.IsWhole)
  (arg11 : Memref sig .tc .vmem S16x8192 .bf16) (harg11 : arg11.IsWhole) (arg12 : Memref sig .tc .vmem S256x1024 .bf16)
  (harg12 : arg12.IsWhole) (arg13 : Memref sig .tc .vmem S64x4096 .bf16) (harg13 : arg13.IsWhole)
  (arg14 : Memref sig .tc .vmem S16x16384 .bf16) (harg14 : arg14.IsWhole)
  (arg15 : Memref sig .tc .vmem S1x2x512x256 .f32) (harg15 : arg15.IsWhole) (arg16 : Memref sig .tc .vmem S256x512 .f32)
  (harg16 : arg16.IsWhole) (arg17 : Memref sig .tc .vmem S256x2048 .f32) (harg17 : arg17.IsWhole)
  (arg18 : Memref sig .tc .vmem S4x256x128 .f32) (harg18 : arg18.IsWhole) (arg19 : Memref sig .tc .vmem S4x256x128 .f32)
  (harg19 : arg19.IsWhole) (arg20 : Memref sig .tc .vmem S4x256x128 .f32) (harg20 : arg20.IsWhole)
  (arg21 : Memref sig .tc .vmem S4x256x128 .f32) (harg21 : arg21.IsWhole) (arg22 : Memref sig .tc .vmem S4x256x128 .f32)
  (harg22 : arg22.IsWhole) (arg23 : Memref sig .tc .vmem S4x256x128 .f32) (harg23 : arg23.IsWhole)
  (x0 : Vec Ideal S256x1024 .f32) (x1 : Vec Ideal S1x1024 .f32) (x2 : Vec Ideal S1024x7168 .bf16)
  (x3 : Vec Ideal S256x128 .f32) (x4 : Vec Ideal S256x128 .f32) (x5 : Vec Ideal S2x512x1024 .bf16)
  (x6 : Vec Ideal S8x256 .f32) (x7 : Vec Ideal S8x256 .f32)

/-- The normalised rows as the body has them, -/
def rowsOf : FVec Ideal S256x1024 .bf16 :=
  normed (rd arg1 harg1 x0 (Rect.unit ![0, 0] S256x1024.size inb_S256x1024_S256x1024_0_0).toLoadRect)
    (rd arg2 harg2 x1 (Rect.unit ![0, 0] S1x1024.size inb_S1x1024_S1x1024_0_0).toLoadRect)

/-- their product with 512 columns of the weights, -/
def tileOf (o : ℕ) (ho : o + 512 ≤ 7168) : FVec Ideal S256x512 .f32 :=
  k0_pay13 (rowsOf arg1 harg1 arg2 harg2 x0 x1)
    (rd arg3 harg3 x2 (Rect.unit (s := S1024x7168) ![0, o] S1024x512.size (col_at 7168 _ 1024 512 o rfl ho)).toLoadRect)

/-- and that turned. -/
def turnOf (o : ℕ) (ho : o + 512 ≤ 7168) : FVec Ideal S256x512 .f32 :=
  turned (k0_pay3 (rd arg4 harg4 x3 (Rect.unit ![0, 0] S256x128.size inb_S256x128_S256x128_0_0).toLoadRect))
    (k0_pay4 (rd arg5 harg5 x4 (Rect.unit ![0, 0] S256x128.size inb_S256x128_S256x128_0_0).toLoadRect))
    (tileOf arg1 harg1 arg2 harg2 arg3 harg3 x0 x1 x2 o ho)

/-- The stores of the first queries, -/
theorem stores8 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).1
    = [⟨Rect.unit ![0, 0] S256x512.size inb_S256x512_S256x512_0_0, truncf .bf16 (scaled (turnOf arg1 harg1 arg2 harg2 arg3 harg3 arg4  harg4 arg5 harg5 x0 x1 x2 x3 x4 0 (by omega))) bitsLt_bf16_f32⟩] := rfl

/-- of the second, -/
theorem stores9 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.1
    = List.ofFn fun r : Fin 4 => ⟨Rect.unit (s := S64x2048) ![0, 512 * (3 - r.val)] S64x512.size
        (col_at 2048 _ 64 512 _ rfl (by omega)),
      gather4 arg18.view (scaled (turnOf arg1 harg1 arg2 harg2 arg3 harg3 arg4  harg4 arg5 harg5 x0 x1 x2 x3 x4 512 (by omega))) (3 - r.val) (by omega)⟩ := rfl

/-- of the third, -/
theorem stores10 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.1
    = List.ofFn fun r : Fin 16 => ⟨Rect.unit (s := S16x8192) ![0, 512 * (15 - r.val)] S16x512.size
        (col_at 8192 _ 16 512 _ rfl (by omega)),
      gather16 arg19.view (scaled (turnOf arg1 harg1 arg2 harg2 arg3 harg3 arg4  harg4 arg5 harg5 x0 x1 x2 x3 x4 1024 (by omega))) (15 - r.val) (by omega)⟩ := rfl

/-- of the first keys and values, -/
theorem stores11 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.2.1
    = [⟨Rect.unit ![0, 512] S256x512.size inb_S256x1024_S256x512_0_512, truncf .bf16 (tileOf arg1 harg1 arg2 harg2 arg3 harg3 x0 x1 x2 3072 (by omega)) bitsLt_bf16_f32⟩,
      ⟨Rect.unit ![0, 0] S256x512.size inb_S256x1024_S256x512_0_0, truncf .bf16 (turnOf arg1 harg1 arg2 harg2 arg3 harg3 arg4  harg4 arg5 harg5 x0 x1 x2 x3 x4 1536 (by omega)) bitsLt_bf16_f32⟩] := rfl

/-- of the second, -/
theorem stores12 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.2.2.1
    = (List.ofFn fun r : Fin 4 => ⟨Rect.unit (s := S64x4096) ![0, 1024 * (3 - r.val) + 512] S64x512.size
        (col_at 4096 _ 64 512 _ rfl (by omega)),
      gather4 arg22.view (tileOf arg1 harg1 arg2 harg2 arg3 harg3 x0 x1 x2 3584 (by omega)) (3 - r.val) (by omega)⟩)
    ++ List.ofFn fun r : Fin 4 => ⟨Rect.unit (s := S64x4096) ![0, 1024 * (3 - r.val)] S64x512.size
        (col_at 4096 _ 64 512 _ rfl (by omega)),
      gather4 arg20.view (turnOf arg1 harg1 arg2 harg2 arg3 harg3 arg4  harg4 arg5 harg5 x0 x1 x2 x3 x4 2048 (by omega)) (3 - r.val) (by omega)⟩ := rfl

/-- of the third, -/
theorem stores13 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.2.2.2.1
    = (List.ofFn fun r : Fin 16 => ⟨Rect.unit (s := S16x16384) ![0, 1024 * (15 - r.val) + 512] S16x512.size
        (col_at 16384 _ 16 512 _ rfl (by omega)),
      gather16 arg23.view (tileOf arg1 harg1 arg2 harg2 arg3 harg3 x0 x1 x2 4096 (by omega)) (15 - r.val) (by omega)⟩)
    ++ List.ofFn fun r : Fin 16 => ⟨Rect.unit (s := S16x16384) ![0, 1024 * (15 - r.val)] S16x512.size
        (col_at 16384 _ 16 512 _ rfl (by omega)),
      gather16 arg21.view (turnOf arg1 harg1 arg2 harg2 arg3 harg3 arg4  harg4 arg5 harg5 x0 x1 x2 x3 x4 2560 (by omega)) (15 - r.val) (by omega)⟩ := rfl

/-- The stores of the transposed keys and values. -/
theorem stores14 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.2.2.2.2.1
    = [⟨Rect.unit ![0, 1, 0, 0] S1x1x512x256.size inb_S1x2x512x256_S1x1x512x256_0_1_0_0,
        shapeCast S1x1x512x256 (k0_pay121 (F := Ideal) (rowsOf arg1 harg1 arg2 harg2 x0 x1) (rd arg6 harg6 x5
          (Rect.unit (s := S2x512x1024) ![1, 0, 0] S1x512x1024.size inb_S2x512x1024_S1x512x1024_1_0_0).toLoadRect))
          shapeCasts_S512x256_S1x1x512x256⟩,
      ⟨Rect.unit ![0, 0, 0, 0] S1x1x512x256.size inb_S1x2x512x256_S1x1x512x256_0_0_0_0,
        shapeCast S1x1x512x256 (turnedRows
          (k0_pay119 (rd arg7 harg7 x6 (Rect.unit ![0, 0] S8x256.size inb_S8x256_S8x256_0_0).toLoadRect))
          (k0_pay120 (rd arg8 harg8 x7 (Rect.unit ![0, 0] S8x256.size inb_S8x256_S8x256_0_0).toLoadRect))
          (k0_pay121 (F := Ideal) (rowsOf arg1 harg1 arg2 harg2 x0 x1) (rd arg6 harg6 x5
            (Rect.unit (s := S2x512x1024) ![0, 0, 0] S1x512x1024.size inb_S2x512x1024_S1x512x1024_0_0_0).toLoadRect)))
          shapeCasts_S512x256_S1x1x512x256⟩] := rfl

/-- of the recurrence's input, -/
theorem stores15 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.2.2.2.2.2.1
    = [⟨Rect.unit ![0, 0] S256x512.size inb_S256x512_S256x512_0_0, tileOf arg1 harg1 arg2 harg2 arg3 harg3 x0 x1 x2 4608 (by omega)⟩] := rfl

/-- and of the gates. -/
theorem stores16 : (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7).2.2.2.2.2.2.2.2.1
    = List.ofFn fun r : Fin 4 => ⟨Rect.unit (s := S256x2048) ![0, 512 * (3 - r.val)] S256x512.size
        (col_at 2048 _ 256 512 _ rfl (by omega)), tileOf arg1 harg1 arg2 harg2 arg3 harg3 x0 x1 x2 (5120 + 512 * (3 - r.val)) (by omega)⟩ := rfl

end Run

end Cert.Kernel2Ideal.Proj
end
-- ==== Proof.Proj.Block.lean ====
/- What the in-projection's body leaves in each output's block, as values of the input blocks. -/
module
public import proofs.«01_k».proof.Proof.Proj.Stores
public import Idealize.ShloMosaic.Lib.WholeRead
@[expose] public section
set_option maxRecDepth 16384
noncomputable section
namespace Cert.Kernel2Ideal.Proj
open Cert.Kernel2Ideal Cert.Kernel2Ideal.Gen Idealize.ShloMosaic Idealize.ShloMosaic.TcCoe Idealize.SL.Sem Cert.Proj

/-- The queries' scale, an eighth. -/
def eighth : EReal := Ideal.ofBits .f32 0x3E000000#32

section Values
variable (x0 : Vec Ideal S256x1024 .f32) (x1 : Vec Ideal S1x1024 .f32) (x2 : Vec Ideal S1024x7168 .bf16)
  (x3 x4 : Vec Ideal S256x128 .f32) (x5 : Vec Ideal S2x512x1024 .bf16) (x6 x7 : Vec Ideal S8x256 .f32)

/-- Column `c` of the projection of row `r`, -/
def projAt (r : Fin 256) (c : Fin 7168) : EReal := ∑ k : Fin 1024, normed x0 x1 (ix2 r k) * x2 (ix2 k c)

/-- column `c` of the eight heads from column `o` on, turned, -/
def ropeAt (o : ℕ) (ho : o + 512 ≤ 7168) (r : Fin 256) (c : Fin 512) : EReal :=
  turnAt (fun c => projAt x0 x1 x2 r ⟨o + c.val, by omega⟩) (fun l => x3 (ix2 r l)) (fun l => x4 (ix2 r l)) c

/-- column `c` of group `g`'s queries, -/
def queryAt (g : ℕ) (hg : g < 3) (r : Fin 256) (c : Fin 512) : EReal :=
  ropeAt x0 x1 x2 x3 x4 (512 * g) (by omega) r c * eighth

/-- and of its keys and values. -/
def kvAt (g : ℕ) (hg : g < 3) (r : Fin 256) (c : Fin 1024) : EReal :=
  if h : c.val < 512 then ropeAt x0 x1 x2 x3 x4 (1536 + 512 * g) (by omega) r ⟨c.val, h⟩
  else projAt x0 x1 x2 r ⟨3072 + 512 * g + (c.val - 512), by omega⟩

/-- Row `c` of the transposed keys (`kv = 0`, before they turn) or values. -/
def transAt (kv : Fin 2) (c : Fin 512) (t : Fin 256) : EReal := ∑ k : Fin 1024, x5 (ix3 kv c k) * normed x0 x1 (ix2 t k)

/-- Row `c` of the transposed keys, turned. -/
def keyAt (c : Fin 512) (t : Fin 256) : EReal :=
  turnCol (fun c => transAt x0 x1 x5 0 c t) (fun i => x6 (ix2 i t)) (fun i => x7 (ix2 i t)) c

def blk8 : Vec Ideal S256x512 .bf16 := fun y => queryAt x0 x1 x2 x3 x4 0 (by omega) (y 0) (y 1)
def blk9 : Vec Ideal S64x2048 .bf16 := fun y =>
  have h0 : (y 0).val < 64 := (y 0).isLt
  have h1 : (y 1).val < 2048 := (y 1).isLt
  queryAt x0 x1 x2 x3 x4 1 (by omega) ⟨4 * (y 0).val + (y 1).val / 512, by omega⟩ ⟨(y 1).val % 512, by omega⟩
def blk10 : Vec Ideal S16x8192 .bf16 := fun y =>
  have h0 : (y 0).val < 16 := (y 0).isLt
  have h1 : (y 1).val < 8192 := (y 1).isLt
  queryAt x0 x1 x2 x3 x4 2 (by omega) ⟨16 * (y 0).val + (y 1).val / 512, by omega⟩ ⟨(y 1).val % 512, by omega⟩
def blk11 : Vec Ideal S256x1024 .bf16 := fun y => kvAt x0 x1 x2 x3 x4 0 (by omega) (y 0) (y 1)
def blk12 : Vec Ideal S64x4096 .bf16 := fun y =>
  have h0 : (y 0).val < 64 := (y 0).isLt
  have h1 : (y 1).val < 4096 := (y 1).isLt
  kvAt x0 x1 x2 x3 x4 1 (by omega) ⟨4 * (y 0).val + (y 1).val / 1024, by omega⟩ ⟨(y 1).val % 1024, by omega⟩
def blk13 : Vec Ideal S16x16384 .bf16 := fun y =>
  have h0 : (y 0).val < 16 := (y 0).isLt
  have h1 : (y 1).val < 16384 := (y 1).isLt
  kvAt x0 x1 x2 x3 x4 2 (by omega) ⟨16 * (y 0).val + (y 1).val / 1024, by omega⟩ ⟨(y 1).val % 1024, by omega⟩
def blk14 : Vec Ideal S1x2x512x256 .f32 := fun y =>
  if (y 1).val = 0 then keyAt x0 x1 x5 x6 x7 (y 2) (y 3) else transAt x0 x1 x5 1 (y 2) (y 3)
def blk15 : Vec Ideal S256x512 .f32 := fun y =>
  have h1 : (y 1).val < 512 := (y 1).isLt
  projAt x0 x1 x2 (y 0) ⟨4608 + (y 1).val, by omega⟩
def blk16 : Vec Ideal S256x2048 .f32 := fun y =>
  have h1 : (y 1).val < 2048 := (y 1).isLt
  projAt x0 x1 x2 (y 0) ⟨5120 + (y 1).val, by omega⟩
end Values

section Run
variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S1024x7168 .bf16)
  (harg3 : arg3.IsWhole) (arg4 : Memref sig .tc .vmem S256x128 .f32) (harg4 : arg4.IsWhole)
  (arg5 : Memref sig .tc .vmem S256x128 .f32) (harg5 : arg5.IsWhole) (arg6 : Memref sig .tc .vmem S2x512x1024 .bf16)
  (harg6 : arg6.IsWhole) (arg7 : Memref sig .tc .vmem S8x256 .f32) (harg7 : arg7.IsWhole)
  (arg8 : Memref sig .tc .vmem S8x256 .f32) (harg8 : arg8.IsWhole) (arg9 : Memref sig .tc .vmem S256x512 .bf16)
  (harg9 : arg9.IsWhole) (arg10 : Memref sig .tc .vmem S64x2048 .bf16) (harg10 : arg10.IsWhole)
  (arg11 : Memref sig .tc .vmem S16x8192 .bf16) (harg11 : arg11.IsWhole) (arg12 : Memref sig .tc .vmem S256x1024 .bf16)
  (harg12 : arg12.IsWhole) (arg13 : Memref sig .tc .vmem S64x4096 .bf16) (harg13 : arg13.IsWhole)
  (arg14 : Memref sig .tc .vmem S16x16384 .bf16) (harg14 : arg14.IsWhole)
  (arg15 : Memref sig .tc .vmem S1x2x512x256 .f32) (harg15 : arg15.IsWhole) (arg16 : Memref sig .tc .vmem S256x512 .f32)
  (harg16 : arg16.IsWhole) (arg17 : Memref sig .tc .vmem S256x2048 .f32) (harg17 : arg17.IsWhole)
  (arg18 : Memref sig .tc .vmem S4x256x128 .f32) (harg18 : arg18.IsWhole) (arg19 : Memref sig .tc .vmem S4x256x128 .f32)
  (harg19 : arg19.IsWhole) (arg20 : Memref sig .tc .vmem S4x256x128 .f32) (harg20 : arg20.IsWhole)
  (arg21 : Memref sig .tc .vmem S4x256x128 .f32) (harg21 : arg21.IsWhole) (arg22 : Memref sig .tc .vmem S4x256x128 .f32)
  (harg22 : arg22.IsWhole) (arg23 : Memref sig .tc .vmem S4x256x128 .f32) (harg23 : arg23.IsWhole)
  (x0 : Vec Ideal S256x1024 .f32) (x1 : Vec Ideal S1x1024 .f32) (x2 : Vec Ideal S1024x7168 .bf16)
  (x3 : Vec Ideal S256x128 .f32) (x4 : Vec Ideal S256x128 .f32) (x5 : Vec Ideal S2x512x1024 .bf16)
  (x6 : Vec Ideal S8x256 .f32) (x7 : Vec Ideal S8x256 .f32)

theorem rowsOf_eq : rowsOf arg1 harg1 arg2 harg2 x0 x1 = normed x0 x1 := by
  have h0 : rd arg1 harg1 x0 (Rect.unit ![0, 0] S256x1024.size inb_S256x1024_S256x1024_0_0).toLoadRect = x0 := funext fun y =>
    (harg1.readAt_unread x0 _ y).trans (congrArg x0 (funext fun a => Fin.ext (by fin_cases a <;> exact (Nat.zero_add _).trans (Nat.one_mul _))))
  have h1 : rd arg2 harg2 x1 (Rect.unit ![0, 0] S1x1024.size inb_S1x1024_S1x1024_0_0).toLoadRect = x1 := funext fun y =>
    (harg2.readAt_unread x1 _ y).trans (congrArg x1 (funext fun a => Fin.ext (by fin_cases a <;> exact (Nat.zero_add _).trans (Nat.one_mul _))))
  unfold rowsOf
  exact congrArg₂ normed h0 h1

theorem tileOf_apply (o : ℕ) (ho : o + 512 ≤ 7168) (r : Fin 256) (c : Fin 512) :
    tileOf arg1 harg1 arg2 harg2 arg3 harg3 x0 x1 x2 o ho (ix2 r c) = projAt x0 x1 x2 r ⟨o + c.val, by omega⟩ := by
  unfold tileOf
  rw [product_apply, rowsOf_eq]
  refine Finset.sum_congr rfl fun k _ => congrArg _ ?_
  refine (harg3.readAt_unread x2 _ _).trans (congrArg x2 (funext fun a => Fin.ext ?_))
  fin_cases a
  · show 0 + 1 * k.val = k.val; omega
  · show o + 1 * c.val = o + c.val; omega

theorem turnOf_apply (o : ℕ) (ho : o + 512 ≤ 7168) (r : Fin 256) (c : Fin 512) :
    turnOf arg1 harg1 arg2 harg2 arg3 harg3 arg4 harg4 arg5 harg5 x0 x1 x2 x3 x4 o ho (ix2 r c)
      = ropeAt x0 x1 x2 x3 x4 o ho r c := by
  have h3 : ∀ l, k0_pay3 (F := Ideal) (rd arg4 harg4 x3 (Rect.unit ![0, 0] S256x128.size inb_S256x128_S256x128_0_0).toLoadRect) (ix2 r l)
      = x3 (ix2 r l) := fun l => by
    pointwise [k0_pay3]
    exact (harg4.readAt_unread x3 _ _).trans (congrArg x3 (funext fun a => Fin.ext (by fin_cases a <;> exact (Nat.zero_add _).trans (Nat.one_mul _))))
  have h4 : ∀ l, k0_pay4 (F := Ideal) (rd arg5 harg5 x4 (Rect.unit ![0, 0] S256x128.size inb_S256x128_S256x128_0_0).toLoadRect) (ix2 r l)
      = x4 (ix2 r l) := fun l => by
    pointwise [k0_pay4]
    exact (harg5.readAt_unread x4 _ _).trans (congrArg x4 (funext fun a => Fin.ext (by fin_cases a <;> exact (Nat.zero_add _).trans (Nat.one_mul _))))
  unfold turnOf
  rw [turned_apply]
  simp only [h3, h4, tileOf_apply]
  rfl

theorem scaled_apply (T : FVec Ideal S256x512 .f32) (r : Fin 256) (c : Fin 512) :
    scaled T (ix2 r c) = T (ix2 r c) * eighth := by
  pointwise [scaled, eighth]

/-- The first queries, -/
theorem out8 : out0_A_8 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk8 x0 x1 x2 x3 x4 := by
  funext y
  unfold out0_A_8
  rw [View.read_writes_junk_eq_canon]
  refine View.canon_apply_of_pieces (blk8 x0 x1 x2 x3 x4) _ (fun p hp x => ?_) y (cover0_A_8 _ _ _ _ _ _ _ _ _ _ _ _ _ _ _ _ _ _ _ _ _ _ _ _ _ _ _ _ _ _ _ _ _ _ _ _ _ _ _ _ _ _ _ _ _ _ _ _ _ _ _ _ _ _ _ _ y)
  rw [stores8] at hp
  obtain rfl := List.mem_singleton.mp hp
  obtain ⟨i, c, rfl⟩ : ∃ (i : Fin 256) (c : Fin 512), x = ix2 i c := ⟨x 0, x 1, by funext t; fin_cases t <;> rfl⟩
  refine (scaled_apply (turnOf arg1 harg1 arg2 harg2 arg3 harg3 arg4 harg4 arg5 harg5 x0 x1 x2 x3 x4 0 (by omega)) i c).trans ?_
  rw [turnOf_apply]
  refine congrArg₂ (queryAt x0 x1 x2 x3 x4 0 (by omega)) (Fin.ext ?_) (Fin.ext ?_)
  · show i.val = 0 + 1 * i.val; omega
  · show c.val = 0 + 1 * c.val; omega

/-- the second, -/
theorem out9 : out0_A_9 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk9 x0 x1 x2 x3 x4 := by
  funext y
  unfold out0_A_9
  rw [View.read_writes_junk_eq_canon]
  refine View.canon_apply_of_pieces (blk9 x0 x1 x2 x3 x4) _ (fun p hp x => ?_) y (cover0_A_9 _ _ _ _ _ _ _ _ _ _ _ _ _ _ _ _ _ _ _ _ _ _ _ _ _ _ _ _ _ _ _ _ _ _ _ _ _ _ _ _ _ _ _ _ _ _ _ _ _ _ _ _ _ _ _ _ y)
  rw [stores9] at hp
  obtain ⟨r, rfl⟩ := (List.mem_ofFn' _ _).mp hp
  obtain ⟨i, c, rfl⟩ : ∃ (i : Fin 64) (c : Fin 512), x = ix2 i c := ⟨x 0, x 1, by funext t; fin_cases t <;> rfl⟩
  refine (gather4_apply arg18.view (scaled (turnOf arg1 harg1 arg2 harg2 arg3 harg3 arg4 harg4 arg5 harg5 x0 x1 x2 x3 x4 512 (by omega))) (3 - r.val) (by omega) i c).trans ?_
  rw [scaled_apply, turnOf_apply]
  refine congrArg₂ (queryAt x0 x1 x2 x3 x4 1 (by omega)) (Fin.ext ?_) (Fin.ext ?_)
  · show 4 * i.val + (3 - r.val) = 4 * (0 + 1 * i.val) + (512 * (3 - r.val) + 1 * c.val) / 512; omega
  · show c.val = (512 * (3 - r.val) + 1 * c.val) % 512; omega

/-- the third, -/
theorem out10 : out0_A_10 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk10 x0 x1 x2 x3 x4 := by
  funext y
  unfold out0_A_10
  rw [View.read_writes_junk_eq_canon]
  refine View.canon_apply_of_pieces (blk10 x0 x1 x2 x3 x4) _ (fun p hp x => ?_) y (cover0_A_10 _ _ _ _ _ _ _ _ _ _ _ _ _ _ _ _ _ _ _ _ _ _ _ _ _ _ _ _ _ _ _ _ _ _ _ _ _ _ _ _ _ _ _ _ _ _ _ _ _ _ _ _ _ _ _ _ y)
  rw [stores10] at hp
  obtain ⟨r, rfl⟩ := (List.mem_ofFn' _ _).mp hp
  obtain ⟨i, c, rfl⟩ : ∃ (i : Fin 16) (c : Fin 512), x = ix2 i c := ⟨x 0, x 1, by funext t; fin_cases t <;> rfl⟩
  refine (gather16_apply arg19.view (scaled (turnOf arg1 harg1 arg2 harg2 arg3 harg3 arg4 harg4 arg5 harg5 x0 x1 x2 x3 x4 1024 (by omega))) (15 - r.val) (by omega) i c).trans ?_
  rw [scaled_apply, turnOf_apply]
  refine congrArg₂ (queryAt x0 x1 x2 x3 x4 2 (by omega)) (Fin.ext ?_) (Fin.ext ?_)
  · show 16 * i.val + (15 - r.val) = 16 * (0 + 1 * i.val) + (512 * (15 - r.val) + 1 * c.val) / 512; omega
  · show c.val = (512 * (15 - r.val) + 1 * c.val) % 512; omega

/-- of the first keys: the piece of a group that holds keys, and the one that holds values, -/
theorem kv_key (g : ℕ) (hg : g < 3) (r r' : Fin 256) (c : Fin 512) (c' : Fin 1024) (hr : r.val = r'.val) (hc : c'.val = c.val) :
    ropeAt x0 x1 x2 x3 x4 (1536 + 512 * g) (by omega) r c = kvAt x0 x1 x2 x3 x4 g hg r' c' := by
  obtain rfl : r = r' := Fin.ext hr
  unfold kvAt
  rw [dif_pos (show c'.val < 512 by omega)]
  exact congrArg _ (Fin.ext hc.symm)

theorem kv_value (g : ℕ) (hg : g < 3) (r r' : Fin 256) (c : Fin 512) (c' : Fin 1024) (hr : r.val = r'.val) (hc : c'.val = c.val + 512)
    (o : ℕ) (ho : o + 512 ≤ 7168) (hog : o = 3072 + 512 * g) :
    projAt x0 x1 x2 r ⟨o + c.val, by omega⟩ = kvAt x0 x1 x2 x3 x4 g hg r' c' := by
  obtain rfl : r = r' := Fin.ext hr
  unfold kvAt
  rw [dif_neg (show ¬ c'.val < 512 by omega)]
  exact congrArg _ (Fin.ext (by show o + c.val = 3072 + 512 * g + (c'.val - 512); omega))

/-- The first keys and values, -/
theorem out11 : out0_A_11 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk11 x0 x1 x2 x3 x4 := by
  funext y
  unfold out0_A_11
  rw [View.read_writes_junk_eq_canon]
  refine View.canon_apply_of_pieces (blk11 x0 x1 x2 x3 x4) _ (fun p hp x => ?_) y (cover0_A_11 _ _ _ _ _ _ _ _ _ _ _ _ _ _ _ _ _ _ _ _ _ _ _ _ _ _ _ _ _ _ _ _ _ _ _ _ _ _ _ _ _ _ _ _ _ _ _ _ _ _ _ _ _ _ _ _ y)
  rw [stores11] at hp
  rcases List.mem_cons.mp hp with rfl | hp
  · obtain ⟨i, c, rfl⟩ : ∃ (i : Fin 256) (c : Fin 512), x = ix2 i c := ⟨x 0, x 1, by funext t; fin_cases t <;> rfl⟩
    refine (tileOf_apply arg1 harg1 arg2 harg2 arg3 harg3 x0 x1 x2 3072 (by omega) i c).trans ?_
    refine kv_value x0 x1 x2 x3 x4 0 (by omega) _ _ _ _ ?_ ?_ _ (by omega) rfl
    · show i.val = 0 + 1 * i.val; omega
    · show 512 + 1 * c.val = c.val + 512; omega
  · obtain rfl := List.mem_singleton.mp hp
    obtain ⟨i, c, rfl⟩ : ∃ (i : Fin 256) (c : Fin 512), x = ix2 i c := ⟨x 0, x 1, by funext t; fin_cases t <;> rfl⟩
    refine (turnOf_apply arg1 harg1 arg2 harg2 arg3 harg3 arg4 harg4 arg5 harg5 x0 x1 x2 x3 x4 1536 (by omega) i c).trans ?_
    refine kv_key x0 x1 x2 x3 x4 0 (by omega) _ _ _ _ ?_ ?_
    · show i.val = 0 + 1 * i.val; omega
    · show 0 + 1 * c.val = c.val; omega

/-- the second, -/
theorem out12 : out0_A_12 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk12 x0 x1 x2 x3 x4 := by
  funext y
  unfold out0_A_12
  rw [View.read_writes_junk_eq_canon]
  refine View.canon_apply_of_pieces (blk12 x0 x1 x2 x3 x4) _ (fun p hp x => ?_) y (cover0_A_12 _ _ _ _ _ _ _ _ _ _ _ _ _ _ _ _ _ _ _ _ _ _ _ _ _ _ _ _ _ _ _ _ _ _ _ _ _ _ _ _ _ _ _ _ _ _ _ _ _ _ _ _ _ _ _ _ y)
  rw [stores12] at hp
  rcases List.mem_append.mp hp with hp | hp
  · obtain ⟨r, rfl⟩ := (List.mem_ofFn' _ _).mp hp
    obtain ⟨i, c, rfl⟩ : ∃ (i : Fin 64) (c : Fin 512), x = ix2 i c := ⟨x 0, x 1, by funext t; fin_cases t <;> rfl⟩
    refine (gather4_apply arg22.view (tileOf arg1 harg1 arg2 harg2 arg3 harg3 x0 x1 x2 3584 (by omega)) (3 - r.val) (by omega) i c).trans ?_
    rw [tileOf_apply]
    refine kv_value x0 x1 x2 x3 x4 1 (by omega) _ _ _ _ ?_ ?_ _ (by omega) rfl
    · show 4 * i.val + (3 - r.val) = 4 * (0 + 1 * i.val) + (1024 * (3 - r.val) + 512 + 1 * c.val) / 1024; omega
    · show (1024 * (3 - r.val) + 512 + 1 * c.val) % 1024 = c.val + 512; omega
  · obtain ⟨r, rfl⟩ := (List.mem_ofFn' _ _).mp hp
    obtain ⟨i, c, rfl⟩ : ∃ (i : Fin 64) (c : Fin 512), x = ix2 i c := ⟨x 0, x 1, by funext t; fin_cases t <;> rfl⟩
    refine (gather4_apply arg20.view (turnOf arg1 harg1 arg2 harg2 arg3 harg3 arg4 harg4 arg5 harg5 x0 x1 x2 x3 x4 2048 (by omega)) (3 - r.val) (by omega) i c).trans ?_
    rw [turnOf_apply]
    refine kv_key x0 x1 x2 x3 x4 1 (by omega) _ _ _ _ ?_ ?_
    · show 4 * i.val + (3 - r.val) = 4 * (0 + 1 * i.val) + (1024 * (3 - r.val) + 1 * c.val) / 1024; omega
    · show (1024 * (3 - r.val) + 1 * c.val) % 1024 = c.val; omega

/-- the third. -/
theorem out13 : out0_A_13 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk13 x0 x1 x2 x3 x4 := by
  funext y
  unfold out0_A_13
  rw [View.read_writes_junk_eq_canon]
  refine View.canon_apply_of_pieces (blk13 x0 x1 x2 x3 x4) _ (fun p hp x => ?_) y (cover0_A_13 _ _ _ _ _ _ _ _ _ _ _ _ _ _ _ _ _ _ _ _ _ _ _ _ _ _ _ _ _ _ _ _ _ _ _ _ _ _ _ _ _ _ _ _ _ _ _ _ _ _ _ _ _ _ _ _ y)
  rw [stores13] at hp
  rcases List.mem_append.mp hp with hp | hp
  · obtain ⟨r, rfl⟩ := (List.mem_ofFn' _ _).mp hp
    obtain ⟨i, c, rfl⟩ : ∃ (i : Fin 16) (c : Fin 512), x = ix2 i c := ⟨x 0, x 1, by funext t; fin_cases t <;> rfl⟩
    refine (gather16_apply arg23.view (tileOf arg1 harg1 arg2 harg2 arg3 harg3 x0 x1 x2 4096 (by omega)) (15 - r.val) (by omega) i c).trans ?_
    rw [tileOf_apply]
    refine kv_value x0 x1 x2 x3 x4 2 (by omega) _ _ _ _ ?_ ?_ _ (by omega) rfl
    · show 16 * i.val + (15 - r.val) = 16 * (0 + 1 * i.val) + (1024 * (15 - r.val) + 512 + 1 * c.val) / 1024; omega
    · show (1024 * (15 - r.val) + 512 + 1 * c.val) % 1024 = c.val + 512; omega
  · obtain ⟨r, rfl⟩ := (List.mem_ofFn' _ _).mp hp
    obtain ⟨i, c, rfl⟩ : ∃ (i : Fin 16) (c : Fin 512), x = ix2 i c := ⟨x 0, x 1, by funext t; fin_cases t <;> rfl⟩
    refine (gather16_apply arg21.view (turnOf arg1 harg1 arg2 harg2 arg3 harg3 arg4 harg4 arg5 harg5 x0 x1 x2 x3 x4 2560 (by omega)) (15 - r.val) (by omega) i c).trans ?_
    rw [turnOf_apply]
    refine kv_key x0 x1 x2 x3 x4 2 (by omega) _ _ _ _ ?_ ?_
    · show 16 * i.val + (15 - r.val) = 16 * (0 + 1 * i.val) + (1024 * (15 - r.val) + 1 * c.val) / 1024; omega
    · show (1024 * (15 - r.val) + 1 * c.val) % 1024 = c.val; omega

/-- The transposed product of 512 rows of the weights with the normalised rows. -/
theorem transposed_apply (xn : FVec Ideal S256x1024 .bf16) (w : Vec Ideal S1x512x1024 .bf16) (c : Fin 512) (t : Fin 256) :
    k0_pay121 (F := Ideal) xn w (ix2 c t) = ∑ k : Fin 1024, w (ix3 0 c k) * xn (ix2 t k) := by
  pointwise [k0_pay121]

theorem transOf_apply (o : ℕ) (kv : Fin 2) (h : ∀ a : Fin S2x512x1024.rank, (![o, 0, 0] : Fin 3 → ℕ) a + S1x512x1024.size a ≤ S2x512x1024.size a) (ho : o = kv.val) (c : Fin 512) (t : Fin 256) :
    k0_pay121 (F := Ideal) (rowsOf arg1 harg1 arg2 harg2 x0 x1) (rd arg6 harg6 x5
      (Rect.unit (s := S2x512x1024) ![o, 0, 0] S1x512x1024.size h).toLoadRect) (ix2 c t) = transAt x0 x1 x5 kv c t := by
  rw [transposed_apply, rowsOf_eq]
  refine Finset.sum_congr rfl fun k _ => congrArg (· * _) ?_
  refine (harg6.readAt_unread x5 _ _).trans (congrArg x5 (funext fun a => Fin.ext ?_))
  fin_cases a
  · show o + 1 * 0 = kv.val; omega
  · show 0 + 1 * c.val = c.val; omega
  · show 0 + 1 * k.val = k.val; omega

theorem small_table (a : Memref sig .tc .vmem S8x256 .f32) (ha : a.IsWhole) (x : Vec Ideal S8x256 .f32) (i : Fin 8) (t : Fin 256) :
    rd a ha x (Rect.unit ![0, 0] S8x256.size inb_S8x256_S8x256_0_0).toLoadRect (ix2 i t) = x (ix2 i t) :=
  (ha.readAt_unread x _ _).trans (congrArg x (funext fun a => Fin.ext (by fin_cases a <;> exact (Nat.zero_add _).trans (Nat.one_mul _))))

theorem pay119_apply (v : Vec Ideal S8x256 .f32) (i : Fin 8) (t : Fin 256) : k0_pay119 v (ix2 i t) = v (ix2 i t) := by
  pointwise [k0_pay119]

theorem pay120_apply (v : Vec Ideal S8x256 .f32) (i : Fin 8) (t : Fin 256) : k0_pay120 v (ix2 i t) = v (ix2 i t) := by
  pointwise [k0_pay120]

theorem block_cast (P : FVec Ideal S512x256 .f32) (c : Fin 512) (t : Fin 256) :
    shapeCast S1x1x512x256 P shapeCasts_S512x256_S1x1x512x256 (ix4 0 0 c t) = P (ix2 c t) := by
  pointwise

theorem turnedOf_apply (c : Fin 512) (t : Fin 256) :
    shapeCast S1x1x512x256 (turnedRows
      (k0_pay119 (rd arg7 harg7 x6 (Rect.unit ![0, 0] S8x256.size inb_S8x256_S8x256_0_0).toLoadRect))
      (k0_pay120 (rd arg8 harg8 x7 (Rect.unit ![0, 0] S8x256.size inb_S8x256_S8x256_0_0).toLoadRect))
      (k0_pay121 (F := Ideal) (rowsOf arg1 harg1 arg2 harg2 x0 x1) (rd arg6 harg6 x5
        (Rect.unit (s := S2x512x1024) ![0, 0, 0] S1x512x1024.size inb_S2x512x1024_S1x512x1024_0_0_0).toLoadRect)))
      shapeCasts_S512x256_S1x1x512x256 (ix4 0 0 c t) = keyAt x0 x1 x5 x6 x7 c t := by
  have hP := transOf_apply arg1 harg1 arg2 harg2 arg6 harg6 x0 x1 x5 0 0 inb_S2x512x1024_S1x512x1024_0_0_0 rfl
  have hc : ∀ a t, k0_pay119 (rd arg7 harg7 x6 (Rect.unit ![0, 0] S8x256.size inb_S8x256_S8x256_0_0).toLoadRect) (ix2 a t) = x6 (ix2 a t) :=
    fun a t => (pay119_apply _ a t).trans (small_table arg7 harg7 x6 a t)
  have hs : ∀ a t, k0_pay120 (rd arg8 harg8 x7 (Rect.unit ![0, 0] S8x256.size inb_S8x256_S8x256_0_0).toLoadRect) (ix2 a t) = x7 (ix2 a t) :=
    fun a t => (pay120_apply _ a t).trans (small_table arg8 harg8 x7 a t)
  revert hP hc hs
  generalize k0_pay119 (F := Ideal) _ = co
  generalize k0_pay120 (F := Ideal) _ = si
  generalize k0_pay121 (F := Ideal) _ _ = P
  intro hP hc hs
  refine (block_cast _ c t).trans ((turnedRows_apply co si P c t).trans ?_)
  unfold keyAt
  simp only [hP, hc, hs]

/-- The transposed keys and values, -/
theorem out14 : out0_A_14 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk14 x0 x1 x5 x6 x7 := by
  funext y
  unfold out0_A_14
  rw [View.read_writes_junk_eq_canon]
  refine View.canon_apply_of_pieces (blk14 x0 x1 x5 x6 x7) _ (fun p hp x => ?_) y (cover0_A_14 _ _ _ _ _ _ _ _ _ _ _ _ _ _ _ _ _ _ _ _ _ _ _ _ _ _ _ _ _ _ _ _ _ _ _ _ _ _ _ _ _ _ _ _ _ _ _ _ _ _ _ _ _ _ _ _ y)
  rw [stores14] at hp
  rcases List.mem_cons.mp hp with rfl | hp
  · obtain ⟨c, t, rfl⟩ : ∃ (c : Fin 512) (t : Fin 256), x = ix4 0 0 c t := ⟨x 2, x 3, by
      funext a; fin_cases a
      · exact Subsingleton.elim (α := Fin 1) _ _
      · exact Subsingleton.elim (α := Fin 1) _ _
      · rfl
      · rfl⟩
    refine Eq.trans ((block_cast _ c t).trans (transOf_apply arg1 harg1 arg2 harg2 arg6 harg6 x0 x1 x5 1 1
      inb_S2x512x1024_S1x512x1024_1_0_0 rfl c t)) ?_
    unfold blk14
    rw [if_neg (by show ¬ (1 + 1 * 0 : ℕ) = 0; omega)]
    refine congrArg₂ (transAt x0 x1 x5 1) (Fin.ext ?_) (Fin.ext ?_)
    · show c.val = 0 + 1 * c.val; omega
    · show t.val = 0 + 1 * t.val; omega
  · obtain rfl := List.mem_singleton.mp hp
    obtain ⟨c, t, rfl⟩ : ∃ (c : Fin 512) (t : Fin 256), x = ix4 0 0 c t := ⟨x 2, x 3, by
      funext a; fin_cases a
      · exact Subsingleton.elim (α := Fin 1) _ _
      · exact Subsingleton.elim (α := Fin 1) _ _
      · rfl
      · rfl⟩
    refine Eq.trans (turnedOf_apply arg1 harg1 arg2 harg2 arg6 harg6 arg7 harg7 arg8 harg8 x0 x1 x5 x6 x7 c t) ?_
    unfold blk14
    rw [if_pos (by show (0 + 1 * 0 : ℕ) = 0; omega)]
    refine congrArg₂ (keyAt x0 x1 x5 x6 x7) (Fin.ext ?_) (Fin.ext ?_)
    · show c.val = 0 + 1 * c.val; omega
    · show t.val = 0 + 1 * t.val; omega

/-- the recurrence's input, -/
theorem out15 : out0_A_15 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk15 x0 x1 x2 := by
  funext y
  unfold out0_A_15
  rw [View.read_writes_junk_eq_canon]
  refine View.canon_apply_of_pieces (blk15 x0 x1 x2) _ (fun p hp x => ?_) y (cover0_A_15 _ _ _ _ _ _ _ _ _ _ _ _ _ _ _ _ _ _ _ _ _ _ _ _ _ _ _ _ _ _ _ _ _ _ _ _ _ _ _ _ _ _ _ _ _ _ _ _ _ _ _ _ _ _ _ _ y)
  rw [stores15] at hp
  obtain rfl := List.mem_singleton.mp hp
  obtain ⟨i, c, rfl⟩ : ∃ (i : Fin 256) (c : Fin 512), x = ix2 i c := ⟨x 0, x 1, by funext t; fin_cases t <;> rfl⟩
  refine (tileOf_apply arg1 harg1 arg2 harg2 arg3 harg3 x0 x1 x2 4608 (by omega) i c).trans ?_
  refine congrArg₂ (projAt x0 x1 x2) (Fin.ext ?_) (Fin.ext ?_)
  · show i.val = 0 + 1 * i.val; omega
  · show 4608 + c.val = 4608 + (0 + 1 * c.val); omega

/-- and the gates. -/
theorem out16 : out0_A_16 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 x0 x1 x2 x3 x4 x5 x6 x7
    = blk16 x0 x1 x2 := by
  funext y
  unfold out0_A_16
  rw [View.read_writes_junk_eq_canon]
  refine View.canon_apply_of_pieces (blk16 x0 x1 x2) _ (fun p hp x => ?_) y (cover0_A_16 _ _ _ _ _ _ _ _ _ _ _ _ _ _ _ _ _ _ _ _ _ _ _ _ _ _ _ _ _ _ _ _ _ _ _ _ _ _ _ _ _ _ _ _ _ _ _ _ _ _ _ _ _ _ _ _ y)
  rw [stores16] at hp
  obtain ⟨r, rfl⟩ := (List.mem_ofFn' _ _).mp hp
  obtain ⟨i, c, rfl⟩ : ∃ (i : Fin 256) (c : Fin 512), x = ix2 i c := ⟨x 0, x 1, by funext t; fin_cases t <;> rfl⟩
  refine (tileOf_apply arg1 harg1 arg2 harg2 arg3 harg3 x0 x1 x2 (5120 + 512 * (3 - r.val)) (by omega) i c).trans ?_
  refine congrArg₂ (projAt x0 x1 x2) (Fin.ext ?_) (Fin.ext ?_)
  · show i.val = 0 + 1 * i.val; omega
  · show 5120 + 512 * (3 - r.val) + c.val = 5120 + (512 * (3 - r.val) + 1 * c.val); omega

end Run

end Cert.Kernel2Ideal.Proj
end
-- ==== Proof.Proj.Host.lean ====
/- The arrays the host writes before the in-projection: the tables of cosines and sines and the last group's transposed weights. -/
module
public import proofs.«01_k».proof.Proof.Proj.Spec
public import proofs.«01_k».proof.Proof.Gen.Kernel2Ideal.Value
@[expose] public section
set_option maxRecDepth 65536
noncomputable section
namespace Cert.Kernel2Ideal.Proj
open Cert.Kernel2Ideal Cert.Kernel2Ideal.Gen Idealize.ShloMosaic Idealize.ShloMosaic.TcCoe Idealize.SL.Sem Cert.Proj

variable (m : (ℓ : Loc nD τ sig) → Buf (Elt Ideal) ℓ) (c : Dev nD)

/-- The frequencies, -/
def freqs : FVec Ideal S8 .f32 :=
  Host.powf (broadcastInDim S8 ![] bcast_S_S8 (constant S_ .f32 0x48F42400#32))
    (Host.negf (Host.divf (sitofp .f32 (iotaInDim S8 32 0)) (broadcastInDim S8 ![] bcast_S_S8 (constant S_ .f32 0x41000000#32))))

/-- the angles, a row per position, -/
def angleRows : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 freqs))

/-- and a column per position. -/
def angleCols : FVec Ideal S8x2048 .f32 :=
  mulf (broadcastInDim S8x2048 ![0, 1] bcast_S8x1_S8x2048_0_1 (broadcastInDim S8x1 ![0] bcast_S8_S8x1_0 freqs))
    (broadcastInDim S8x2048 ![0, 1] bcast_S1x2048_S8x2048_0_1 (broadcastInDim S1x2048 ![1] bcast_S2048_S1x2048_1 (sitofp .f32 (iotaInDim S2048 32 0))))

/-- A head's table of three pieces, -/
def headTable (a b : FVec Ideal S2048x8 .f32) (r : FVec Ideal S2048x48 .f32) : FVec Ideal S2048x64 .f32 :=
  concatenate S2048x64 1 [⟨S2048x8, a⟩, ⟨S2048x8, b⟩, ⟨S2048x48, r⟩] concatenates_S2048x8_S2048x8_S2048x48_S2048x64_d1

/-- laid out twice. -/
def twice (T : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 T shapeCasts_S2048x64_S1x2048x1x64)) shapeCasts_S1x2048x2x64_S2048x128

/-- The place of the last group among three, as the host computes it, -/
def lastGroup : IVec S1x1 32 :=
  broadcastInDim S1x1 ![0] bcast_S1_S1x1_0 (select (cmpi .slt (constantI S1 32 2#32) (broadcastInDim S1 ![] bcast_S_S1 (constantI S_ 32 0#32)))
    (addi (constantI S1 32 2#32) (broadcastInDim S1 ![] bcast_S_S1 (constantI S_ 32 3#32))) (constantI S1 32 2#32))

/-- and its rows of three groups' transposed columns. -/
def lastRows (w : FVec Ideal S1024x1536 .bf16) : FVec Ideal S1x512x1024 .bf16 :=
  Host.gather gather_S3x512x1024_S1x1_S1x512x1024_12_0_n_n_0_1_15121024
    (shapeCast S3x512x1024 (transpose S1536x1024 [1, 0] w transposes_S1024x1536_S1536x1024_1_0) shapeCasts_S1536x1024_S3x512x1024) lastGroup

/-- The weights, rounded. -/
def weights (W : FVec Ideal SW .f32) : FVec Ideal S1024x7168 .bf16 :=
  truncf .bf16 (shapeCast S1024x7168 W shapeCasts_S1x1024x7168_S1024x7168 : FVec Ideal S1024x7168 .f32) bitsLt_bf16_f32

theorem V_cos : V m c main_v26 = twice (headTable (Host.cos angleRows) (Host.cos angleRows)
    (broadcastInDim S2048x48 ![] bcast_S_S2048x48 (constant S_ .f32 0x3F800000#32))) := rfl

theorem V_sin : V m c main_v29 = twice (headTable (Host.negf (Host.sin angleRows)) (Host.sin angleRows)
    (broadcastInDim S2048x48 ![] bcast_S_S2048x48 (constant S_ .f32 0x00000000#32))) := rfl

theorem V_cosT : V m c main_v42 = Host.cos angleCols := rfl
theorem V_sinT : V m c main_v43 = Host.sin angleCols := rfl

theorem V_wt : V m c main_v64 = concatenate S2x512x1024 0
    [⟨S1x512x1024, lastRows (extractStridedSlice S1024x1536 ![0, 1536] (weights (m ((c : Thread nD τ).loc main_arg2))) slices_S1024x7168_S1024x1536_0_1536)⟩,
      ⟨S1x512x1024, lastRows (extractStridedSlice S1024x1536 ![0, 3072] (weights (m ((c : Thread nD τ).loc main_arg2))) slices_S1024x7168_S1024x1536_0_3072)⟩]
    concatenates_S1x512x1024_S1x512x1024_S2x512x1024_d0 := rfl

theorem freqs_apply (i : Fin 8) : freqs (ix1 i) = freq i := by
  pointwise [freqs]
  rfl

theorem angleRows_apply (t : Fin 2048) (i : Fin 8) : angleRows (ix2 t i) = angle t i := by
  pointwise [angleRows]
  rw [freqs_apply]
  rfl

theorem angleCols_apply (t : Fin 2048) (i : Fin 8) : angleCols (ix2 i t) = angle t i := by
  pointwise [angleCols]
  rw [freqs_apply]
  exact mul_comm _ _

theorem twice_apply (T : FVec Ideal S2048x64 .f32) (t : Fin 2048) (l : Fin 128) : twice T (ix2 t l) = T (ix2 t ⟨l.val % 64, by omega⟩) := by
  pointwise [twice]
  all_goals exact congrArg T (congrArg₂ ix2 (Fin.ext (by dsimp only; omega)) (Fin.ext (by dsimp only; omega)))

theorem headTable_first (a b : FVec Ideal S2048x8 .f32) (r : FVec Ideal S2048x48 .f32) (t : Fin 2048) (l : Fin 64) (h : l.val < 8) :
    headTable a b r (ix2 t l) = a (ix2 t ⟨l.val, h⟩) := by
  pointwise [headTable]
  rw [dif_pos h]

theorem headTable_second (a b : FVec Ideal S2048x8 .f32) (r : FVec Ideal S2048x48 .f32) (t : Fin 2048) (l : Fin 64) (h : ¬ l.val < 8)
    (h' : l.val < 16) : headTable a b r (ix2 t l) = b (ix2 t ⟨l.val - 8, by omega⟩) := by
  pointwise [headTable]
  rw [dif_neg h, dif_pos (by omega)]

theorem weights_apply (W : FVec Ideal SW .f32) (k : Fin 1024) (l : Fin 7168) : weights W (ix2 k l) = W (ix3 0 k l) := by
  pointwise [weights]

theorem lastGroup_apply : lastGroup (ix2 0 0) = 2#32 := by
  pointwise [lastGroup]
  all_goals rfl

theorem lastRows_apply (w : FVec Ideal S1024x1536 .bf16) (l : Fin 512) (k : Fin 1024) :
    lastRows w (ix3 0 l k) = w (ix2 k ⟨1024 + l.val, by omega⟩) := by
  unfold lastRows Host.gather
  have e : gather_S3x512x1024_S1x1_S1x512x1024_12_0_n_n_0_1_15121024.operandIdx (ix3 0 l k) lastGroup = ix3 2 l k := by
    funext a
    apply Fin.ext
    fin_cases a
    · show min (lastGroup _).toInt.toNat 2 + 0 + 0 = 2
      have h : ∀ y : S1x1.Idx, (lastGroup y).toInt.toNat = 2 := fun y => by
        have hy : y = ix2 0 0 := by funext a; fin_cases a <;> exact Subsingleton.elim (α := Fin 1) _ _
        rw [hy, lastGroup_apply]; rfl
      rw [h]; rfl
    · show 0 + 0 + l.val = l.val; omega
    · show 0 + 0 + k.val = k.val; omega
  rw [e]
  pointwise

/-- The transposed weights: the last group's keys, then its values. -/
theorem wt_apply (kv : Fin 2) (l : Fin 512) (k : Fin 1024) :
    V m c main_v64 (ix3 kv l k) = (m ((c : Thread nD τ).loc main_arg2) : FVec Ideal SW .f32) (ix3 0 k ⟨2560 + 1536 * kv.val + l.val, by omega⟩) := by
  rw [V_wt]
  pointwise
  split
  · next h =>
    have hk : kv = 0 := Fin.ext (by show kv.val = 0; omega)
    subst hk
    refine (lastRows_apply _ l k).trans ?_
    pointwise
    refine (weights_apply _ _ _).trans (congrArg _ (congrArg₂ (ix3 0) (Fin.ext ?_) (Fin.ext ?_)))
    · rfl
    · show 1536 + (1024 + l.val) = 2560 + 1536 * 0 + l.val; omega
  · next h =>
    have hk : kv = 1 := Fin.ext (by show kv.val = 1; omega)
    subst hk
    refine (lastRows_apply _ l k).trans ?_
    pointwise
    refine (weights_apply _ _ _).trans (congrArg _ (congrArg₂ (ix3 0) (Fin.ext ?_) (Fin.ext ?_)))
    · rfl
    · show 3072 + (1024 + l.val) = 2560 + 1536 * 1 + l.val; omega

end Cert.Kernel2Ideal.Proj
end
-- ==== Proof.Proj.Read.lean ====
/- The blocks the in-projection reads, as its arguments. -/
module
public import proofs.«01_k».proof.Proof.Proj.Spec
public import proofs.«01_k».proof.Proof.Proj.Block
public import proofs.«01_k».proof.Proof.Proj.Host
public import proofs.«01_k».proof.Proof.Gen.Kernel2Ideal.Value
public import Idealize.ShloMosaic.Lib.Pipeline.ValueKit.Point
@[expose] public section
set_option maxRecDepth 16384
noncomputable section
namespace Cert.Kernel2Ideal.Proj
open Cert.Kernel2Ideal Cert.Kernel2Ideal.Gen Idealize.ShloMosaic Idealize.ShloMosaic.TcCoe Idealize.SL.Sem Cert.Proj

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 8, 0] := (by decide +kernel : ∀ t : Fin grid0.N, _)
theorem idx4 : ∀ t : Fin cfg0.N, win0_4.index t = ![t.val % 8, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, t.val % 8] := (by decide +kernel : ∀ t : Fin grid0.N, _)
theorem idx7 : ∀ t : Fin cfg0.N, win0_7.index t = ![0, t.val % 8] := (by decide +kernel : ∀ t : Fin grid0.N, _)

abbrev argX : FVec Ideal SX .f32 := m ((c : Thread nD τ).loc main_arg0)
abbrev argG : FVec Ideal SG .f32 := m ((c : Thread nD τ).loc main_arg1)
abbrev argW : FVec Ideal SW .f32 := m ((c : Thread nD τ).loc main_arg2)

/-- A block of tokens. -/
theorem x_read (t : Fin cfg0.N) (n : Fin 16384) (r : Fin 256) (k : Fin 1024) (hn : n.val = 256 * t.val + r.val) :
    iblk m c 0 t (ix2 r k) = tok (argX m c) n k := by
  blk_simp [iblk]
  entry_read
  pointwise
  unfold tok
  blk_ext [idx0 t]

/-- The gains. -/
theorem g_read (t : Fin cfg0.N) (k : Fin 1024) : iblk m c 1 t (ix2 0 k) = argG m c (ix2 0 k) := by
  blk_simp [iblk]
  entry_read
  pointwise
  blk_ext [idx1 t]

/-- The weights. -/
theorem w_read (t : Fin cfg0.N) (k : Fin 1024) (l : Fin 7168) : iblk m c 2 t (ix2 k l) = argW m c (ix3 0 k l) := by
  blk_simp [iblk]
  entry_read
  pointwise
  blk_ext [idx2 t]

/-- The cosines of a head's lanes, -/
theorem cos_read (t : Fin cfg0.N) (p : Fin 2048) (r : Fin 256) (l : Fin 128) (hp : p.val = 256 * (t.val % 8) + r.val) :
    iblk m c 3 t (ix2 r l) = twice (headTable (Host.cos angleRows) (Host.cos angleRows)
      (broadcastInDim S2048x48 ![] bcast_S_S2048x48 (constant S_ .f32 0x3F800000#32))) (ix2 p l) := by
  blk_simp [iblk]
  rw [V_cos]
  blk_ext [idx3 t]

/-- the signed sines, -/
theorem sin_read (t : Fin cfg0.N) (p : Fin 2048) (r : Fin 256) (l : Fin 128) (hp : p.val = 256 * (t.val % 8) + r.val) :
    iblk m c 4 t (ix2 r l) = twice (headTable (Host.negf (Host.sin angleRows)) (Host.sin angleRows)
      (broadcastInDim S2048x48 ![] bcast_S_S2048x48 (constant S_ .f32 0x00000000#32))) (ix2 p l) := by
  blk_simp [iblk]
  rw [V_sin]
  blk_ext [idx4 t]

/-- the transposed weights, -/
theorem wt_read (t : Fin cfg0.N) (kv : Fin 2) (l : Fin 512) (k : Fin 1024) :
    iblk m c 5 t (ix3 kv l k) = V m c main_v64 (ix3 kv l k) := by
  blk_simp [iblk]
  blk_ext [idx5 t]

/-- the transposed cosines, -/
theorem cosT_read (t : Fin cfg0.N) (p : Fin 2048) (i : Fin 8) (r : Fin 256) (hp : p.val = 256 * (t.val % 8) + r.val) :
    iblk m c 6 t (ix2 i r) = Ideal.cos (angle p i) := by
  rw [← angleCols_apply]
  refine Eq.trans (b := Host.cos angleCols (ix2 i p)) ?_ (by pointwise)
  blk_simp [iblk]
  rw [V_cosT]
  blk_ext [idx6 t]

/-- and the transposed sines. -/
theorem sinT_read (t : Fin cfg0.N) (p : Fin 2048) (i : Fin 8) (r : Fin 256) (hp : p.val = 256 * (t.val % 8) + r.val) :
    iblk m c 7 t (ix2 i r) = Ideal.sin (angle p i) := by
  rw [← angleCols_apply]
  refine Eq.trans (b := Host.sin angleCols (ix2 i p)) ?_ (by pointwise)
  blk_simp [iblk]
  rw [V_sinT]
  blk_ext [idx7 t]

end Cert.Kernel2Ideal.Proj
end
-- ==== Proof.Proj.Array.lean ====
/- The in-projection's results after its run, as formulas of its arguments. -/
module
public import proofs.«01_k».proof.Proof.Proj.Read
@[expose] public section
set_option maxRecDepth 16384
noncomputable section
namespace Cert.Kernel2Ideal.Proj
open Cert.Kernel2Ideal Cert.Kernel2Ideal.Gen Idealize.ShloMosaic Idealize.ShloMosaic.TcCoe Idealize.SL.Sem Cert.Proj

section Columns
variable (X : FVec Ideal SX .f32) (G : FVec Ideal SG .f32) (W : FVec Ideal SW .f32) (n : Fin 16384) (r : Fin 256)
  (x0 : Vec Ideal S256x1024 .f32) (x1 : Vec Ideal S1x1024 .f32) (x2 : Vec Ideal S1024x7168 .bf16)
  (x3 x4 : Vec Ideal S256x128 .f32) (x5 : Vec Ideal S2x512x1024 .bf16) (x6 x7 : Vec Ideal S8x256 .f32)
  (h0 : ∀ k, x0 (ix2 r k) = tok X n k) (h1 : ∀ k, x1 (ix2 0 k) = G (ix2 0 k))

include h0 h1 in
theorem normed_row (k : Fin 1024) : normed x0 x1 (ix2 r k) = normRow X G n k := by
  rw [normed_apply]
  simp only [h0, h1]
  rfl

variable (h2 : ∀ k l, x2 (ix2 k l) = W (ix3 0 k l))

include h0 h1 h2 in
theorem projAt_eq (c : Fin 7168) : projAt x0 x1 x2 r c = prj X G W n c := by
  unfold projAt prj
  refine Finset.sum_congr rfl fun k _ => ?_
  rw [normed_row X G n r x0 x1 h0 h1, h2]

variable (h3 : ∀ l : Fin 128, x3 (ix2 r l) = headTable (Host.cos angleRows) (Host.cos angleRows)
      (broadcastInDim S2048x48 ![] bcast_S_S2048x48 (constant S_ .f32 0x3F800000#32)) (ix2 (posOf n) ⟨l.val % 64, by omega⟩))
  (h4 : ∀ l : Fin 128, x4 (ix2 r l) = headTable (Host.negf (Host.sin angleRows)) (Host.sin angleRows)
      (broadcastInDim S2048x48 ![] bcast_S_S2048x48 (constant S_ .f32 0x00000000#32)) (ix2 (posOf n) ⟨l.val % 64, by omega⟩))

include h0 h1 h2 h3 h4 in
theorem ropeAt_eq (o : ℕ) (ho : o + 512 ≤ 7168) (ho' : o % 64 = 0) (c : Fin 512) :
    ropeAt x0 x1 x2 x3 x4 o ho r c = rope X G W n ⟨o + c.val, by omega⟩ := by
  unfold ropeAt turnAt rope
  simp only [h3, h4, projAt_eq X G W n r x0 x1 x2 h0 h1 h2]
  by_cases a : c.val % 64 < 8
  · rw [if_pos (by omega), if_pos a, dif_pos (show (o + c.val) % 64 < 8 by omega),
      headTable_first _ _ _ _ _ (by dsimp only; omega), headTable_first _ _ _ _ _ (by dsimp only; omega)]
    rw [show ∀ p i, Host.cos angleRows (ix2 p i) = Ideal.cos (angleRows (ix2 p i)) from fun p i => by pointwise,
      show ∀ p i, Host.negf (Host.sin angleRows) (ix2 p i) = -Ideal.sin (angleRows (ix2 p i)) from fun p i => by pointwise,
      angleRows_apply, mul_neg, ← sub_eq_add_neg]
    have e : (⟨c.val % 128 % 64, by omega⟩ : Fin 8) = ⟨(o + c.val) % 64, by omega⟩ := Fin.ext (by dsimp only; omega)
    have e' : (⟨o + (c.val / 64 * 64 + (c.val % 64 + 8) % 64), by omega⟩ : Fin 7168) = ⟨o + c.val + 8, by omega⟩ := Fin.ext (by dsimp only; omega)
    exact congrArg₂ (fun i l => prj X G W n _ * Ideal.cos (angle (posOf n) i) - prj X G W n l * Ideal.sin (angle (posOf n) i)) e e'
  · by_cases b : c.val % 64 < 16
    · rw [if_pos b, if_neg a, dif_neg (show ¬ (o + c.val) % 64 < 8 by omega), dif_pos (show (o + c.val) % 64 < 16 by omega),
        headTable_second _ _ _ _ _ (by dsimp only; omega) (by dsimp only; omega), headTable_second _ _ _ _ _ (by dsimp only; omega) (by dsimp only; omega)]
      rw [show ∀ p i, Host.cos angleRows (ix2 p i) = Ideal.cos (angleRows (ix2 p i)) from fun p i => by pointwise,
        show ∀ p i, Host.sin angleRows (ix2 p i) = Ideal.sin (angleRows (ix2 p i)) from fun p i => by pointwise, angleRows_apply]
      have e : (⟨c.val % 128 % 64 - 8, by omega⟩ : Fin 8) = ⟨(o + c.val) % 64 - 8, by omega⟩ := Fin.ext (by dsimp only; omega)
      have e' : (⟨o + (c.val - 8), by omega⟩ : Fin 7168) = ⟨o + c.val - 8, by omega⟩ := Fin.ext (by dsimp only; omega)
      exact congrArg₂ (fun i l => prj X G W n _ * Ideal.cos (angle (posOf n) i) + prj X G W n l * Ideal.sin (angle (posOf n) i)) e e'
    · rw [if_neg b, dif_neg (show ¬ (o + c.val) % 64 < 8 by omega), dif_neg (show ¬ (o + c.val) % 64 < 16 by omega)]

include h0 h1 h2 h3 h4 in
theorem queryAt_eq (g : ℕ) (hg : g < 3) (c : Fin 512) : queryAt x0 x1 x2 x3 x4 g hg r c = qSpec X G W g hg n c := by
  unfold queryAt qSpec
  rw [ropeAt_eq X G W n r x0 x1 x2 x3 x4 h0 h1 h2 h3 h4 _ _ (by omega)]
  rfl

include h0 h1 h2 h3 h4 in
theorem kvAt_eq (g : ℕ) (hg : g < 3) (c : Fin 1024) : kvAt x0 x1 x2 x3 x4 g hg r c = kvSpec X G W g hg n c := by
  unfold kvAt kvSpec
  split
  · exact ropeAt_eq X G W n r x0 x1 x2 x3 x4 h0 h1 h2 h3 h4 _ _ (by omega) _
  · exact projAt_eq X G W n r x0 x1 x2 h0 h1 h2 _

variable (h5 : ∀ (kv : Fin 2) (l : Fin 512) (k : Fin 1024), x5 (ix3 kv l k) = W (ix3 0 k ⟨2560 + 1536 * kv.val + l.val, by omega⟩))
  (h6 : ∀ i, x6 (ix2 i r) = Ideal.cos (angle (posOf n) i)) (h7 : ∀ i, x7 (ix2 i r) = Ideal.sin (angle (posOf n) i))

include h0 h1 h5 in
theorem transAt_eq (kv : Fin 2) (c : Fin 512) : transAt x0 x1 x5 kv c r = prj X G W n ⟨2560 + 1536 * kv.val + c.val, by omega⟩ := by
  unfold transAt prj
  refine Finset.sum_congr rfl fun k _ => ?_
  rw [normed_row X G n r x0 x1 h0 h1, h5, mul_comm]

include h0 h1 h5 h6 h7 in
theorem keyAt_eq (c : Fin 512) : keyAt x0 x1 x5 x6 x7 c r = rope X G W n ⟨2560 + c.val, by omega⟩ :=
  turnCol_eq X G W n 2560 (by omega) rfl _ _ _ (transAt_eq X G W n r x0 x1 x5 h0 h1 h5 0) h6 h7 c

end Columns

variable (m : (ℓ : Loc nD τ sig) → Buf (Elt Ideal) ℓ) (c : Dev nD)

section Blocks
variable (t : Fin cfg0.N) (n : Fin 16384) (r : Fin 256) (hn : n.val = 256 * t.val + r.val)

include hn

theorem cos_row (l : Fin 128) : iblk m c 3 t (ix2 r l) = headTable (Host.cos angleRows) (Host.cos angleRows)
      (broadcastInDim S2048x48 ![] bcast_S_S2048x48 (constant S_ .f32 0x3F800000#32)) (ix2 (posOf n) ⟨l.val % 64, by omega⟩) :=
  (cos_read m c t (posOf n) r l (by unfold posOf; dsimp only; omega)).trans (twice_apply _ _ _)

theorem sin_row (l : Fin 128) : iblk m c 4 t (ix2 r l) = headTable (Host.negf (Host.sin angleRows)) (Host.sin angleRows)
      (broadcastInDim S2048x48 ![] bcast_S_S2048x48 (constant S_ .f32 0x00000000#32)) (ix2 (posOf n) ⟨l.val % 64, by omega⟩) :=
  (sin_read m c t (posOf n) r l (by unfold posOf; dsimp only; omega)).trans (twice_apply _ _ _)

theorem block_query (g : ℕ) (hg : g < 3) (l : Fin 512) :
    queryAt (iblk m c 0 t) (iblk m c 1 t) (iblk m c 2 t) (iblk m c 3 t) (iblk m c 4 t) g hg r l
      = qSpec (argX m c) (argG m c) (argW m c) g hg n l :=
  queryAt_eq _ _ _ n r _ _ _ _ _ (fun k => x_read m c t n r k hn) (g_read m c t) (w_read m c t)
    (cos_row m c t n r hn) (sin_row m c t n r hn) g hg l

theorem block_kv (g : ℕ) (hg : g < 3) (l : Fin 1024) :
    kvAt (iblk m c 0 t) (iblk m c 1 t) (iblk m c 2 t) (iblk m c 3 t) (iblk m c 4 t) g hg r l
      = kvSpec (argX m c) (argG m c) (argW m c) g hg n l :=
  kvAt_eq _ _ _ n r _ _ _ _ _ (fun k => x_read m c t n r k hn) (g_read m c t) (w_read m c t)
    (cos_row m c t n r hn) (sin_row m c t n r hn) g hg l

theorem block_proj (l : Fin 7168) :
    projAt (iblk m c 0 t) (iblk m c 1 t) (iblk m c 2 t) r l = prj (argX m c) (argG m c) (argW m c) n l :=
  projAt_eq _ _ _ n r _ _ _ (fun k => x_read m c t n r k hn) (g_read m c t) (w_read m c t) l

theorem block_trans (kv : Fin 2) (l : Fin 512) :
    transAt (iblk m c 0 t) (iblk m c 1 t) (iblk m c 5 t) kv l r
      = prj (argX m c) (argG m c) (argW m c) n ⟨2560 + 1536 * kv.val + l.val, by omega⟩ :=
  transAt_eq _ _ _ n r _ _ _ (fun k => x_read m c t n r k hn) (g_read m c t)
    (fun kv l k => (wt_read m c t kv l k).trans (wt_apply m c kv l k)) kv l

theorem block_key (l : Fin 512) :
    keyAt (iblk m c 0 t) (iblk m c 1 t) (iblk m c 5 t) (iblk m c 6 t) (iblk m c 7 t) l r
      = rope (argX m c) (argG m c) (argW m c) n ⟨2560 + l.val, by omega⟩ :=
  keyAt_eq _ _ _ n r _ _ _ _ _ (fun k => x_read m c t n r k hn) (g_read m c t)
    (fun kv l k => (wt_read m c t kv l k).trans (wt_apply m c kv l k))
    (fun i => cosT_read m c t (posOf n) i r (by unfold posOf; dsimp only; omega))
    (fun i => sinT_read m c t (posOf n) i r (by unfold posOf; dsimp only; omega)) l

end Blocks

end Cert.Kernel2Ideal.Proj
end
-- ==== Proof.Proj.Place.lean ====
/- Each block the in-projection stores, as a part of its array. -/
module
public import proofs.«01_k».proof.Proof.Proj.Array
@[expose] public section
set_option maxRecDepth 16384
noncomputable section
namespace Cert.Kernel2Ideal.Proj
open Cert.Kernel2Ideal Cert.Kernel2Ideal.Gen Idealize.ShloMosaic Idealize.ShloMosaic.TcCoe Idealize.SL.Sem Cert.Proj

variable (m : (ℓ : Loc nD τ sig) → Buf (Elt Ideal) ℓ) (c : Dev nD)

theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val / 8, 0, 0, t.val % 8] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

theorem place8 (t : Fin cfg0.N) (y : S256x512.Idx) (e : S16384x512.Idx) (e0 : (e 0).val = 256 * t.val + (y 0).val) (e1 : (e 1).val = (y 1).val) :
    blk8 (iblk m c 0 t) (iblk m c 1 t) (iblk m c 2 t) (iblk m c 3 t) (iblk m c 4 t) y = q0Arr (argX m c) (argG m c) (argW m c) e := by
  exact (block_query m c t (e 0) (y 0) e0 0 (by omega) (y 1)).trans (congrArg (qSpec _ _ _ 0 _ _) (Fin.ext e1.symm))

theorem place9 (t : Fin cfg0.N) (y : S64x2048.Idx) (e : S4096x2048.Idx) (e0 : (e 0).val = 64 * t.val + (y 0).val) (e1 : (e 1).val = (y 1).val) :
    blk9 (iblk m c 0 t) (iblk m c 1 t) (iblk m c 2 t) (iblk m c 3 t) (iblk m c 4 t) y = q1Arr (argX m c) (argG m c) (argW m c) e := by
  have h0 : (e 0).val < 4096 := (e 0).isLt
  have h1 : (y 1).val < 2048 := (y 1).isLt
  have h2 : (e 1).val < 2048 := (e 1).isLt
  exact (block_query m c t ⟨4 * (e 0).val + (e 1).val / 512, by omega⟩ _ (by dsimp only; omega) 1 (by omega) _).trans
    (congrArg (qSpec _ _ _ 1 _ _) (Fin.ext (by show (y 1).val % 512 = (e 1).val % 512; rw [e1])))

theorem place10 (t : Fin cfg0.N) (y : S16x8192.Idx) (e : S1024x8192.Idx) (e0 : (e 0).val = 16 * t.val + (y 0).val) (e1 : (e 1).val = (y 1).val) :
    blk10 (iblk m c 0 t) (iblk m c 1 t) (iblk m c 2 t) (iblk m c 3 t) (iblk m c 4 t) y = q2Arr (argX m c) (argG m c) (argW m c) e := by
  have h0 : (e 0).val < 1024 := (e 0).isLt
  have h1 : (y 1).val < 8192 := (y 1).isLt
  have h2 : (e 1).val < 8192 := (e 1).isLt
  exact (block_query m c t ⟨16 * (e 0).val + (e 1).val / 512, by omega⟩ _ (by dsimp only; omega) 2 (by omega) _).trans
    (congrArg (qSpec _ _ _ 2 _ _) (Fin.ext (by show (y 1).val % 512 = (e 1).val % 512; rw [e1])))

theorem place11 (t : Fin cfg0.N) (y : S256x1024.Idx) (e : S16384x1024.Idx) (e0 : (e 0).val = 256 * t.val + (y 0).val) (e1 : (e 1).val = (y 1).val) :
    blk11 (iblk m c 0 t) (iblk m c 1 t) (iblk m c 2 t) (iblk m c 3 t) (iblk m c 4 t) y = kv0Arr (argX m c) (argG m c) (argW m c) e := by
  exact (block_kv m c t (e 0) (y 0) e0 0 (by omega) (y 1)).trans (congrArg (kvSpec _ _ _ 0 _ _) (Fin.ext e1.symm))

theorem place12 (t : Fin cfg0.N) (y : S64x4096.Idx) (e : S4096x4096.Idx) (e0 : (e 0).val = 64 * t.val + (y 0).val) (e1 : (e 1).val = (y 1).val) :
    blk12 (iblk m c 0 t) (iblk m c 1 t) (iblk m c 2 t) (iblk m c 3 t) (iblk m c 4 t) y = kv1Arr (argX m c) (argG m c) (argW m c) e := by
  have h0 : (e 0).val < 4096 := (e 0).isLt
  have h1 : (y 1).val < 4096 := (y 1).isLt
  have h2 : (e 1).val < 4096 := (e 1).isLt
  exact (block_kv m c t ⟨4 * (e 0).val + (e 1).val / 1024, by omega⟩ _ (by dsimp only; omega) 1 (by omega) _).trans
    (congrArg (kvSpec _ _ _ 1 _ _) (Fin.ext (by show (y 1).val % 1024 = (e 1).val % 1024; rw [e1])))

theorem place13 (t : Fin cfg0.N) (y : S16x16384.Idx) (e : S1024x16384.Idx) (e0 : (e 0).val = 16 * t.val + (y 0).val) (e1 : (e 1).val = (y 1).val) :
    blk13 (iblk m c 0 t) (iblk m c 1 t) (iblk m c 2 t) (iblk m c 3 t) (iblk m c 4 t) y = kv2Arr (argX m c) (argG m c) (argW m c) e := by
  have h0 : (e 0).val < 1024 := (e 0).isLt
  have h1 : (y 1).val < 16384 := (y 1).isLt
  have h2 : (e 1).val < 16384 := (e 1).isLt
  exact (block_kv m c t ⟨16 * (e 0).val + (e 1).val / 1024, by omega⟩ _ (by dsimp only; omega) 2 (by omega) _).trans
    (congrArg (kvSpec _ _ _ 2 _ _) (Fin.ext (by show (y 1).val % 1024 = (e 1).val % 1024; rw [e1])))

theorem place15 (t : Fin cfg0.N) (y : S256x512.Idx) (e : S16384x512.Idx) (e0 : (e 0).val = 256 * t.val + (y 0).val) (e1 : (e 1).val = (y 1).val) :
    blk15 (iblk m c 0 t) (iblk m c 1 t) (iblk m c 2 t) y = uArr (argX m c) (argG m c) (argW m c) e := by
  exact (block_proj m c t (e 0) (y 0) e0 _).trans (congrArg (prj _ _ _ _) (Fin.ext (by show 4608 + (y 1).val = 4608 + (e 1).val; rw [e1])))

theorem place16 (t : Fin cfg0.N) (y : S256x2048.Idx) (e : S16384x2048.Idx) (e0 : (e 0).val = 256 * t.val + (y 0).val) (e1 : (e 1).val = (y 1).val) :
    blk16 (iblk m c 0 t) (iblk m c 1 t) (iblk m c 2 t) y = gateArr (argX m c) (argG m c) (argW m c) e := by
  exact (block_proj m c t (e 0) (y 0) e0 _).trans (congrArg (prj _ _ _ _) (Fin.ext (by show 5120 + (y 1).val = 5120 + (e 1).val; rw [e1])))

theorem place14 (t : Fin cfg0.N) (y : S1x2x512x256.Idx) (e : S8x2x512x2048.Idx) (e0 : (e 0).val = t.val / 8) (e1 : (e 1).val = (y 1).val)
    (e2 : (e 2).val = (y 2).val) (e3 : (e 3).val = 256 * (t.val % 8) + (y 3).val) :
    blk14 (iblk m c 0 t) (iblk m c 1 t) (iblk m c 5 t) (iblk m c 6 t) (iblk m c 7 t) y = ktArr (argX m c) (argG m c) (argW m c) e := by
  have h0 : (e 0).val < 8 := (e 0).isLt
  have h1 : (e 1).val < 2 := (e 1).isLt
  have h2 : (e 2).val < 512 := (e 2).isLt
  have h3 : (e 3).val < 2048 := (e 3).isLt
  unfold blk14 ktArr kvSpec
  split
  · rw [if_pos (by dsimp only; omega)]
    refine (block_key m c t ⟨2048 * (e 0).val + (e 3).val, by omega⟩ (y 3) (by dsimp only; omega) (y 2)).trans
      (congrArg (rope _ _ _ _) (Fin.ext ?_))
    show 2560 + (y 2).val = 1536 + 512 * 2 + (512 * (e 1).val + (e 2).val)
    omega
  · rw [if_neg (by dsimp only; omega)]
    refine (block_trans m c t ⟨2048 * (e 0).val + (e 3).val, by omega⟩ (y 3) (by dsimp only; omega) 1 (y 2)).trans
      (congrArg (prj _ _ _ _) (Fin.ext ?_))
    show 2560 + 1536 * 1 + (y 2).val = 3072 + 512 * 2 + (512 * (e 1).val + (e 2).val - 512)
    omega

end Cert.Kernel2Ideal.Proj
end
-- ==== Proof.Proj.Final.lean ====
/- The arrays the in-projection's run ends with. -/
module
public import proofs.«01_k».proof.Proof.Proj.Place
@[expose] public section
set_option maxRecDepth 16384
noncomputable section
namespace Cert.Kernel2Ideal.Proj
open Cert.Kernel2Ideal Cert.Kernel2Ideal.Gen Idealize.ShloMosaic Idealize.ShloMosaic.TcCoe Idealize.SL.Sem Cert.Proj

variable (m : (ℓ : Loc nD τ sig) → Buf (Elt Ideal) ℓ) (c : Dev nD)

theorem after8 (t : Fin cfg0.N) : (dats m 0 c).after 8 t = blk8 (iblk m c 0 t) (iblk m c 1 t) (iblk m c 2 t) (iblk m c 3 t) (iblk m c 4 t) := by
  rw [after0_8]
  unfold outsAt0
  dsimp only
  exact out8 ..

/-- After the run, the first group's queries, -/
theorem final8 : (dats m 0 c).arrAt 8 cfg0.N = q0Arr (argX m c) (argG m c) (argW m c) := by
  refine (dats m 0 c).arrAt_eq_of_covers 8 _ (by decide +kernel) fun t hf y => ?_
  blk_simp
  rw [after8]
  exact place8 m c t _ _ (by blk_simp [idx8 t]; omega) (by blk_simp [idx8 t])

theorem after9 (t : Fin cfg0.N) : (dats m 0 c).after 9 t = blk9 (iblk m c 0 t) (iblk m c 1 t) (iblk m c 2 t) (iblk m c 3 t) (iblk m c 4 t) := by
  rw [after0_9]
  unfold outsAt0
  dsimp only
  exact out9 ..

/-- After the run, the second's, -/
theorem final9 : (dats m 0 c).arrAt 9 cfg0.N = q1Arr (argX m c) (argG m c) (argW m c) := by
  refine (dats m 0 c).arrAt_eq_of_covers 9 _ (by decide +kernel) fun t hf y => ?_
  blk_simp
  rw [after9]
  exact place9 m c t _ _ (by blk_simp [idx9 t]; omega) (by blk_simp [idx9 t])

theorem after10 (t : Fin cfg0.N) : (dats m 0 c).after 10 t = blk10 (iblk m c 0 t) (iblk m c 1 t) (iblk m c 2 t) (iblk m c 3 t) (iblk m c 4 t) := by
  rw [after0_10]
  unfold outsAt0
  dsimp only
  exact out10 ..

/-- After the run, the third's, -/
theorem final10 : (dats m 0 c).arrAt 10 cfg0.N = q2Arr (argX m c) (argG m c) (argW m c) := by
  refine (dats m 0 c).arrAt_eq_of_covers 10 _ (by decide +kernel) fun t hf y => ?_
  blk_simp
  rw [after10]
  exact place10 m c t _ _ (by blk_simp [idx10 t]; omega) (by blk_simp [idx10 t])

theorem after11 (t : Fin cfg0.N) : (dats m 0 c).after 11 t = blk11 (iblk m c 0 t) (iblk m c 1 t) (iblk m c 2 t) (iblk m c 3 t) (iblk m c 4 t) := by
  rw [after0_11]
  unfold outsAt0
  dsimp only
  exact out11 ..

/-- After the run, the first group's keys and values, -/
theorem final11 : (dats m 0 c).arrAt 11 cfg0.N = kv0Arr (argX m c) (argG m c) (argW m c) := by
  refine (dats m 0 c).arrAt_eq_of_covers 11 _ (by decide +kernel) fun t hf y => ?_
  blk_simp
  rw [after11]
  exact place11 m c t _ _ (by blk_simp [idx11 t]; omega) (by blk_simp [idx11 t])

theorem after12 (t : Fin cfg0.N) : (dats m 0 c).after 12 t = blk12 (iblk m c 0 t) (iblk m c 1 t) (iblk m c 2 t) (iblk m c 3 t) (iblk m c 4 t) := by
  rw [after0_12]
  unfold outsAt0
  dsimp only
  exact out12 ..

/-- After the run, the second's, -/
theorem final12 : (dats m 0 c).arrAt 12 cfg0.N = kv1Arr (argX m c) (argG m c) (argW m c) := by
  refine (dats m 0 c).arrAt_eq_of_covers 12 _ (by decide +kernel) fun t hf y => ?_
  blk_simp
  rw [after12]
  exact place12 m c t _ _ (by blk_simp [idx12 t]; omega) (by blk_simp [idx12 t])

theorem after13 (t : Fin cfg0.N) : (dats m 0 c).after 13 t = blk13 (iblk m c 0 t) (iblk m c 1 t) (iblk m c 2 t) (iblk m c 3 t) (iblk m c 4 t) := by
  rw [after0_13]
  unfold outsAt0
  dsimp only
  exact out13 ..

/-- After the run, the third's, -/
theorem final13 : (dats m 0 c).arrAt 13 cfg0.N = kv2Arr (argX m c) (argG m c) (argW m c) := by
  refine (dats m 0 c).arrAt_eq_of_covers 13 _ (by decide +kernel) fun t hf y => ?_
  blk_simp
  rw [after13]
  exact place13 m c t _ _ (by blk_simp [idx13 t]; omega) (by blk_simp [idx13 t])

theorem after14 (t : Fin cfg0.N) : (dats m 0 c).after 14 t = blk14 (iblk m c 0 t) (iblk m c 1 t) (iblk m c 5 t) (iblk m c 6 t) (iblk m c 7 t) := by
  rw [after0_14]
  unfold outsAt0
  dsimp only
  exact out14 ..

/-- After the run, these again with positions last, -/
theorem final14 : (dats m 0 c).arrAt 14 cfg0.N = ktArr (argX m c) (argG m c) (argW m c) := by
  refine (dats m 0 c).arrAt_eq_of_covers 14 _ (by decide +kernel) fun t hf y => ?_
  blk_simp
  rw [after14]
  exact place14 m c t _ _ (by blk_simp [idx14 t]) (by blk_simp [idx14 t]) (by blk_simp [idx14 t]) (by blk_simp [idx14 t]; omega)

theorem after15 (t : Fin cfg0.N) : (dats m 0 c).after 15 t = blk15 (iblk m c 0 t) (iblk m c 1 t) (iblk m c 2 t) := by
  rw [after0_15]
  unfold outsAt0
  dsimp only
  exact out15 ..

/-- After the run, the recurrence's input, -/
theorem final15 : (dats m 0 c).arrAt 15 cfg0.N = uArr (argX m c) (argG m c) (argW m c) := by
  refine (dats m 0 c).arrAt_eq_of_covers 15 _ (by decide +kernel) fun t hf y => ?_
  blk_simp
  rw [after15]
  exact place15 m c t _ _ (by blk_simp [idx15 t]; omega) (by blk_simp [idx15 t])

theorem after16 (t : Fin cfg0.N) : (dats m 0 c).after 16 t = blk16 (iblk m c 0 t) (iblk m c 1 t) (iblk m c 2 t) := by
  rw [after0_16]
  unfold outsAt0
  dsimp only
  exact out16 ..

/-- After the run, and the gates. -/
theorem final16 : (dats m 0 c).arrAt 16 cfg0.N = gateArr (argX m c) (argG m c) (argW m c) := by
  refine (dats m 0 c).arrAt_eq_of_covers 16 _ (by decide +kernel) fun t hf y => ?_
  blk_simp
  rw [after16]
  exact place16 m c t _ _ (by blk_simp [idx16 t]; omega) (by blk_simp [idx16 t])

end Cert.Kernel2Ideal.Proj
end
-- ==== Proof.Proj.Stages.lean ====
/- The stages of the plain in-projection, by names, and each at an index. -/
module
public import proofs.«01_k».proof.Proof.Gen.Reference2Ideal.Run
public import Idealize.ShloMosaic.Lib.Pointwise
public import proofs.«01_k».proof.Proof.Proj.Spec
@[expose] public section
noncomputable section
namespace Cert.Reference2Ideal.Proj
open Cert.Reference2Ideal Cert.Reference2Ideal.Gen Idealize.ShloMosaic Idealize.ShloMosaic.TcCoe Idealize.SL.Sem Cert.Proj

variable (X : FVec Ideal S8x2048x1024 .f32) (G : FVec Ideal S1x1024 .f32) (W : FVec Ideal S1x1024x7168 .f32)

/-- One over the root of each token's mean square, -/
def scales : FVec Ideal S8x2048x1 .f32 :=
  Host.rsqrt (addf (Host.divf (broadcastInDim S8x2048x1 ![0, 1] bcast_S8x2048_S8x2048x1_0_1
    (Host.reduceAdd (mulf X X) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32)))
/-- the tokens normed by given scales, -/
def normedBy (s : FVec Ideal S8x2048x1 .f32) : FVec Ideal S8x2048x1024 .f32 :=
  mulf (mulf X (broadcastInDim S8x2048x1024 ![0, 1, 2] bcast_S8x2048x1_S8x2048x1024_0_1_2 s))
    (broadcastInDim S8x2048x1024 ![0, 1, 2] bcast_S1x1x1024_S8x2048x1024_0_1_2
      (broadcastInDim S1x1x1024 ![2] bcast_S1024_S1x1x1024_2 (shapeCast _ G shapeCasts_S1x1024_S1024)))
/-- and their projection. -/
def wideBy (Z : FVec Ideal S8x2048x1024 .f32) : FVec Ideal S8x2048x7168 .f32 :=
  Host.dotGeneral dot_S8x2048x1024_S1024x7168_S8x2048x7168_2_0_01_1_n_n none Z (shapeCast _ W shapeCasts_S1x1024x7168_S1024x7168)
def wide : FVec Ideal S8x2048x7168 .f32 := wideBy W (normedBy X G (scales X))

/-- The angles. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.negf (Host.divf (sitofp .f32 (iotaInDim S8 32 0)) (broadcastInDim S8 ![] bcast_S_S8 (constant S_ .f32 0x41000000#32)))))))
/-- A table for every head. -/
def onHeads (T : FVec Ideal S2048x8 .f32) : FVec Ideal S8x2048x24x8 .f32 :=
  broadcastInDim S8x2048x24x8 ![0, 1, 2, 3] bcast_S1x2048x1x8_S8x2048x24x8_0_1_2_3 (broadcastInDim S1x2048x1x8 ![1, 3] bcast_S2048x8_S1x2048x1x8_1_3 T)
/-- Heads turned by tables of cosines and sines. -/
def turnedBy (C S : FVec Ideal S2048x8 .f32) (P : FVec Ideal S8x2048x24x64 .f32) : FVec Ideal S8x2048x24x64 .f32 :=
  concatenate S8x2048x24x64 3
    [⟨S8x2048x24x8, subf (mulf (extractStridedSlice S8x2048x24x8 ![0, 0, 0, 0] P slices_S8x2048x24x64_S8x2048x24x8_0_0_0_0) (onHeads C))
        (mulf (extractStridedSlice S8x2048x24x8 ![0, 0, 0, 8] P slices_S8x2048x24x64_S8x2048x24x8_0_0_0_8) (onHeads S))⟩,
     ⟨S8x2048x24x8, addf (mulf (extractStridedSlice S8x2048x24x8 ![0, 0, 0, 8] P slices_S8x2048x24x64_S8x2048x24x8_0_0_0_8) (onHeads C))
        (mulf (extractStridedSlice S8x2048x24x8 ![0, 0, 0, 0] P slices_S8x2048x24x64_S8x2048x24x8_0_0_0_0) (onHeads S))⟩,
     ⟨S8x2048x24x48, extractStridedSlice S8x2048x24x48 ![0, 0, 0, 16] P slices_S8x2048x24x64_S8x2048x24x48_0_0_0_16⟩]
    concatenates_S8x2048x24x8_S8x2048x24x8_S8x2048x24x48_S8x2048x24x64_d3
def turned (P : FVec Ideal S8x2048x24x64 .f32) : FVec Ideal S8x2048x24x64 .f32 := turnedBy (Host.cos angles) (Host.sin angles) P

/-- The 24 heads from column `o` on, -/
def heads (o : ℕ) (h : S8x2048x7168.Slices ![0, 0, o] S8x2048x1536) (Z : FVec Ideal S8x2048x7168 .f32) : FVec Ideal S8x2048x24x64 .f32 :=
  shapeCast _ (extractStridedSlice S8x2048x1536 ![0, 0, o] Z h) shapeCasts_S8x2048x1536_S8x2048x24x64
/-- and 8 of them. -/
def group (o : ℕ) (h : S8x2048x24x64.Slices ![0, 0, o, 0] S8x2048x8x64) (P : FVec Ideal S8x2048x24x64 .f32) : FVec Ideal S8x2048x8x64 .f32 :=
  extractStridedSlice S8x2048x8x64 ![0, 0, o, 0] P h
/-- The scaled queries of a group, -/
def queries (P : FVec Ideal S8x2048x8x64 .f32) : FVec Ideal S8x2048x8x64 .bf16 :=
  truncf .bf16 (mulf P (broadcastInDim S8x2048x8x64 ![] bcast_S_S8x2048x8x64 (constant S_ .f32 0x3E000000#32))) bitsLt_bf16_f32
/-- and its keys beside its values. -/
def beside (K V : FVec Ideal S8x2048x8x64 .f32) : FVec Ideal S8x2048x2x8x64 .f32 :=
  concatenate S8x2048x2x8x64 2
    [⟨S8x2048x1x8x64, broadcastInDim S8x2048x1x8x64 ![0, 1, 3, 4] bcast_S8x2048x8x64_S8x2048x1x8x64_0_1_3_4 K⟩,
     ⟨S8x2048x1x8x64, broadcastInDim S8x2048x1x8x64 ![0, 1, 3, 4] bcast_S8x2048x8x64_S8x2048x1x8x64_0_1_3_4 V⟩]
    concatenates_S8x2048x1x8x64_S8x2048x1x8x64_S8x2048x2x8x64_d2

/-! ## The stages at an index. -/

/-- A token by its sequence and position. -/
theorem tok_eq (n : Fin 16384) (b : Fin 8) (t : Fin 2048) (hn : n.val = 2048 * b.val + t.val) (k : Fin 1024) :
    tok X n k = X (ix3 b t k) := by
  unfold tok
  exact congrArg₂ (fun b t => X (ix3 b t k)) (Fin.ext (by show n.val / 2048 = b.val; omega)) (Fin.ext (by show n.val % 2048 = t.val; omega))

theorem scales_apply (b : Fin 8) (t : Fin 2048) : scales X (ix3 b t 0)
    = Ideal.rsqrt (Ideal.div (∑ j, X (ix3 b t j) * X (ix3 b t j)) (Ideal.ofBits .f32 0x44800000#32) + Ideal.ofBits .f32 0x358637BD#32) := by
  pointwise [scales]

theorem normedBy_apply (s : FVec Ideal S8x2048x1 .f32) (b : Fin 8) (t : Fin 2048) (k : Fin 1024) :
    normedBy X G s (ix3 b t k) = X (ix3 b t k) * s (ix3 b t 0) * G (ix2 0 k) := by
  pointwise [normedBy]

theorem wideBy_apply (Z : FVec Ideal S8x2048x1024 .f32) (b : Fin 8) (t : Fin 2048) (c : Fin 7168) :
    wideBy W Z (ix3 b t c) = ∑ k : Fin 1024, Z (ix3 b t k) * W (ix3 0 k c) := by
  pointwise [wideBy]

/-- The projection. -/
theorem wide_apply (n : Fin 16384) (b : Fin 8) (t : Fin 2048) (hn : n.val = 2048 * b.val + t.val) (c : Fin 7168) :
    wide X G W (ix3 b t c) = prj X G W n c := by
  unfold wide prj normRow
  simp only [wideBy_apply, normedBy_apply, scales_apply, tok_eq X n b t hn]

theorem angles_apply (t : Fin 2048) (i : Fin 8) : angles (ix2 t i) = angle t i := by
  pointwise [angles]
  rfl

theorem turnedBy_apply (C S : FVec Ideal S2048x8 .f32) (P : FVec Ideal S8x2048x24x64 .f32) (b : Fin 8) (t : Fin 2048) (h : Fin 24) (d : Fin 64) :
    turnedBy C S P (ix4 b t h d) =
      if e : d.val < 8 then P (ix4 b t h d) * C (ix2 t ⟨d.val, e⟩) - P (ix4 b t h ⟨d.val + 8, by omega⟩) * S (ix2 t ⟨d.val, e⟩)
      else if e : d.val < 16 then P (ix4 b t h d) * C (ix2 t ⟨d.val - 8, by omega⟩) + P (ix4 b t h ⟨d.val - 8, by omega⟩) * S (ix2 t ⟨d.val - 8, by omega⟩)
      else P (ix4 b t h d) := by
  pointwise [turnedBy, onHeads]
  have e (k : Fin 64) (hk : k.val = d.val) : P (ix4 b t h k) = P (ix4 b t h d) := congrArg (fun k => P (ix4 b t h k)) (Fin.ext hk)
  split
  · rw [show (⟨8 + d.val, _⟩ : Fin 64) = ⟨d.val + 8, by omega⟩ from Fin.ext (Nat.add_comm _ _)]
  · by_cases h16 : d.val < 16
    · rw [dif_pos (by omega), dif_pos h16, e _ (by dsimp only; omega)]
    · rw [dif_neg (by omega), dif_neg h16, e _ (by dsimp only; omega)]

theorem heads_apply (o : ℕ) (ho : S8x2048x7168.Slices ![0, 0, o] S8x2048x1536) (Z : FVec Ideal S8x2048x7168 .f32) (b : Fin 8) (t : Fin 2048) (h : Fin 24) (d : Fin 64)
    (c : Fin 7168) (hc : c.val = o + 64 * h.val + d.val) : heads o ho Z (ix4 b t h d) = Z (ix3 b t c) := by
  pointwise [heads]
  exact congrArg (fun c => Z (ix3 b t c)) (Fin.ext (by dsimp only; omega))

theorem group_apply (o : ℕ) (ho : S8x2048x24x64.Slices ![0, 0, o, 0] S8x2048x8x64) (P : FVec Ideal S8x2048x24x64 .f32) (b : Fin 8) (t : Fin 2048) (h : Fin 8) (d : Fin 64)
    (k : Fin 24) (hk : k.val = o + h.val) : group o ho P (ix4 b t h d) = P (ix4 b t k d) := by
  pointwise [group]
  exact congrArg (fun k => P (ix4 b t k d)) (Fin.ext hk.symm)

theorem queries_apply (P : FVec Ideal S8x2048x8x64 .f32) (b : Fin 8) (t : Fin 2048) (h : Fin 8) (d : Fin 64) :
    queries P (ix4 b t h d) = P (ix4 b t h d) * Ideal.ofBits .f32 0x3E000000#32 := by
  pointwise [queries]

theorem beside_apply (K V : FVec Ideal S8x2048x8x64 .f32) (b : Fin 8) (t : Fin 2048) (s : Fin 2) (h : Fin 8) (d : Fin 64) :
    beside K V (ix5 b t s h d) = if s.val < 1 then K (ix4 b t h d) else V (ix4 b t h d) := by
  pointwise [beside]
  rfl

/-! ## The groups by the formulas. -/

/-- A turned head, if heads start at a multiple of 64. -/
theorem turned_apply (o : ℕ) (ho : S8x2048x7168.Slices ![0, 0, o] S8x2048x1536) (h64 : o % 64 = 0) (n : Fin 16384) (b : Fin 8) (t : Fin 2048)
    (hn : n.val = 2048 * b.val + t.val) (h : Fin 24) (d : Fin 64) (c : Fin 7168) (hc : c.val = o + 64 * h.val + d.val) :
    turned (heads o ho (wide X G W)) (ix4 b t h d) = rope X G W n c := by
  have hd : c.val % 64 = d.val := by omega
  have ht : posOf n = t := Fin.ext (by show n.val % 2048 = t.val; omega)
  unfold turned rope
  rw [turnedBy_apply, ht]
  have p (d' : Fin 64) (c' : Fin 7168) (hc' : c'.val = o + 64 * h.val + d'.val) : heads o ho (wide X G W) (ix4 b t h d') = prj X G W n c' :=
    (heads_apply o ho _ b t h d' c' hc').trans (wide_apply X G W n b t hn c')
  have co (i : Fin 8) : Host.cos angles (ix2 t i) = Ideal.cos (angle t i) := congrArg Ideal.cos (angles_apply t i)
  have si (i : Fin 8) : Host.sin angles (ix2 t i) = Ideal.sin (angle t i) := congrArg Ideal.sin (angles_apply t i)
  by_cases h8 : d.val < 8
  · have i (h) : (⟨c.val % 64, h⟩ : Fin 8) = ⟨d.val, h8⟩ := Fin.ext hd
    rw [dif_pos h8, dif_pos (by omega), p d c hc, p ⟨d.val + 8, by omega⟩ ⟨c.val + 8, by omega⟩ (by dsimp only; omega), co, si, i]
  · by_cases h16 : d.val < 16
    · have i (h) : (⟨c.val % 64 - 8, h⟩ : Fin 8) = ⟨d.val - 8, by omega⟩ := Fin.ext (by dsimp only; omega)
      rw [dif_neg h8, dif_pos h16, dif_neg (by omega), dif_pos (by omega), p d c hc,
        p ⟨d.val - 8, by omega⟩ ⟨c.val - 8, by omega⟩ (by dsimp only; omega), co, si, i]
    · rw [dif_neg h8, dif_neg h16, dif_neg (by omega), dif_neg (by omega), p d c hc]

/-- The scaled queries of group `g`, of heads from `o` on. -/
theorem query_apply (g : ℕ) (hg : g < 3) (o : ℕ) (ho : S8x2048x24x64.Slices ![0, 0, o, 0] S8x2048x8x64) (h0 : S8x2048x7168.Slices ![0, 0, 0] S8x2048x1536)
    (hog : o = 8 * g) (n : Fin 16384) (b : Fin 8) (t : Fin 2048) (hn : n.val = 2048 * b.val + t.val) (h : Fin 8) (d : Fin 64) (c : Fin 512)
    (hc : c.val = 64 * h.val + d.val) :
    queries (group o ho (turned (heads 0 h0 (wide X G W)))) (ix4 b t h d) = qSpec X G W g hg n c := by
  rw [queries_apply, group_apply o ho _ b t h d ⟨o + h.val, by omega⟩ rfl,
    turned_apply X G W 0 h0 rfl n b t hn _ d ⟨512 * g + c.val, by omega⟩ (by dsimp only; omega)]
  rfl

/-- Keys beside values, likewise. -/
theorem kv_apply (g : ℕ) (hg : g < 3) (o : ℕ) (ho : S8x2048x24x64.Slices ![0, 0, o, 0] S8x2048x8x64) (hk : S8x2048x7168.Slices ![0, 0, 1536] S8x2048x1536)
    (hv : S8x2048x7168.Slices ![0, 0, 3072] S8x2048x1536)
    (hog : o = 8 * g) (n : Fin 16384) (b : Fin 8) (t : Fin 2048) (hn : n.val = 2048 * b.val + t.val) (s : Fin 2) (h : Fin 8) (d : Fin 64) (c : Fin 1024)
    (hc : c.val = 512 * s.val + 64 * h.val + d.val) :
    beside (group o ho (turned (heads 1536 hk (wide X G W)))) (group o ho (heads 3072 hv (wide X G W))) (ix5 b t s h d) = kvSpec X G W g hg n c := by
  rw [beside_apply]
  unfold kvSpec
  by_cases hs : s.val < 1
  · rw [if_pos hs, if_pos (by omega), group_apply o ho _ b t h d ⟨o + h.val, by omega⟩ rfl,
      turned_apply X G W 1536 hk rfl n b t hn _ d ⟨1536 + 512 * g + c.val, by omega⟩ (by dsimp only; omega)]
  · rw [if_neg hs, if_neg (by omega), group_apply o ho _ b t h d ⟨o + h.val, by omega⟩ rfl,
      heads_apply 3072 hv _ b t _ d ⟨3072 + 512 * g + (c.val - 512), by omega⟩ (by dsimp only; omega), wide_apply X G W n b t hn]

end Cert.Reference2Ideal.Proj
end
-- ==== Proof.Proj.Results.lean ====
/- The results of the plain in-projection, by the stages. -/
module
public import proofs.«01_k».proof.Proof.Proj.Stages
@[expose] public section
noncomputable section
namespace Cert.Reference2Ideal.Proj
open Cert.Reference2Ideal Cert.Reference2Ideal.Gen Idealize.ShloMosaic Idealize.ShloMosaic.TcCoe Idealize.SL.Sem Cert.Proj

section
variable (X : FVec Ideal S8x2048x1024 .f32) (G : FVec Ideal S1x1024 .f32) (W : FVec Ideal S1x1024x7168 .f32)

/-- Queries of heads from `o` on, -/
def qOf (o : ℕ) (h : S8x2048x24x64.Slices ![0, 0, o, 0] S8x2048x8x64) : FVec Ideal S8x2048x8x64 .bf16 :=
  queries (group o h (turned (heads 0 slices_S8x2048x7168_S8x2048x1536_0_0_0 (wide X G W))))
/-- and keys beside values. -/
def kvOf (o : ℕ) (h : S8x2048x24x64.Slices ![0, 0, o, 0] S8x2048x8x64) : FVec Ideal S8x2048x2x8x64 .f32 :=
  beside (group o h (turned (heads 1536 slices_S8x2048x7168_S8x2048x1536_0_0_1536 (wide X G W))))
    (group o h (heads 3072 slices_S8x2048x7168_S8x2048x1536_0_0_3072 (wide X G W)))
end

variable (m : (ℓ : Loc nD τ sig) → Buf (Elt Ideal) ℓ) (c : Dev nD)
abbrev argX : FVec Ideal S8x2048x1024 .f32 := m ((c.tc : Thread nD τ).loc main_arg0)
abbrev argG : FVec Ideal S1x1024 .f32 := m ((c.tc : Thread nD τ).loc main_arg1)
abbrev argW : FVec Ideal S1x1024x7168 .f32 := m ((c.tc : Thread nD τ).loc main_arg2)

theorem named_q0 : Value.res_out0 m c = shapeCast S16384x512 (qOf (argX m c) (argG m c) (argW m c) 0 slices_S8x2048x24x64_S8x2048x8x64_0_0_0_0)
      shapeCasts_S8x2048x8x64_S16384x512 := by
  delta Value.res_out0 Value.res_main_v110
  exact congrArg (fun x => shapeCast S16384x512 x shapeCasts_S8x2048x8x64_S16384x512) rfl

theorem named_q1 : Value.res_out1 m c = shapeCast S4096x2048 (qOf (argX m c) (argG m c) (argW m c) 8 slices_S8x2048x24x64_S8x2048x8x64_0_0_8_0)
      shapeCasts_S8x2048x8x64_S4096x2048 := by
  delta Value.res_out1 Value.res_main_v112
  exact congrArg (fun x => shapeCast S4096x2048 x shapeCasts_S8x2048x8x64_S4096x2048) rfl

theorem named_q2 : Value.res_out2 m c = shapeCast S1024x8192 (qOf (argX m c) (argG m c) (argW m c) 16 slices_S8x2048x24x64_S8x2048x8x64_0_0_16_0)
      shapeCasts_S8x2048x8x64_S1024x8192 := by
  delta Value.res_out2 Value.res_main_v114
  exact congrArg (fun x => shapeCast S1024x8192 x shapeCasts_S8x2048x8x64_S1024x8192) rfl

theorem named_kv0 : Value.res_out3 m c = shapeCast S16384x1024 (truncf .bf16 (kvOf (argX m c) (argG m c) (argW m c) 0 slices_S8x2048x24x64_S8x2048x8x64_0_0_0_0) bitsLt_bf16_f32)
      shapeCasts_S8x2048x2x8x64_S16384x1024 := by
  delta Value.res_out3 Value.res_main_v116
  exact congrArg (fun x => shapeCast S16384x1024 (truncf .bf16 x bitsLt_bf16_f32) shapeCasts_S8x2048x2x8x64_S16384x1024) rfl

theorem named_kv1 : Value.res_out4 m c = shapeCast S4096x4096 (truncf .bf16 (kvOf (argX m c) (argG m c) (argW m c) 8 slices_S8x2048x24x64_S8x2048x8x64_0_0_8_0) bitsLt_bf16_f32)
      shapeCasts_S8x2048x2x8x64_S4096x4096 := by
  delta Value.res_out4 Value.res_main_v118
  exact congrArg (fun x => shapeCast S4096x4096 (truncf .bf16 x bitsLt_bf16_f32) shapeCasts_S8x2048x2x8x64_S4096x4096) rfl

theorem named_kv2 : Value.res_out5 m c = shapeCast S1024x16384 (truncf .bf16 (kvOf (argX m c) (argG m c) (argW m c) 16 slices_S8x2048x24x64_S8x2048x8x64_0_0_16_0) bitsLt_bf16_f32)
      shapeCasts_S8x2048x2x8x64_S1024x16384 := by
  delta Value.res_out5 Value.res_main_v120
  exact congrArg (fun x => shapeCast S1024x16384 (truncf .bf16 x bitsLt_bf16_f32) shapeCasts_S8x2048x2x8x64_S1024x16384) rfl

theorem named_kt : Value.res_out6 m c = transpose S8x2x512x2048 [0, 2, 3, 1] (shapeCast S8x2048x2x512
    (kvOf (argX m c) (argG m c) (argW m c) 16 slices_S8x2048x24x64_S8x2048x8x64_0_0_16_0) shapeCasts_S8x2048x2x8x64_S8x2048x2x512)
    transposes_S8x2048x2x512_S8x2x512x2048_0_2_3_1 := by
  delta Value.res_out6 Value.res_main_v122
  exact congrArg (fun x => transpose S8x2x512x2048 [0, 2, 3, 1] (shapeCast S8x2048x2x512 x
    shapeCasts_S8x2048x2x8x64_S8x2048x2x512) transposes_S8x2048x2x512_S8x2x512x2048_0_2_3_1) rfl

end Cert.Reference2Ideal.Proj
end
-- ==== Proof.Proj.Ref.lean ====
/- The results of the plain in-projection, by the formulas. -/
module
public import proofs.«01_k».proof.Proof.Proj.Results
@[expose] public section
noncomputable section
namespace Cert.Reference2Ideal.Proj
open Cert.Reference2Ideal Cert.Reference2Ideal.Gen Idealize.ShloMosaic Idealize.ShloMosaic.TcCoe Idealize.SL.Sem Cert.Proj

section
variable (X : FVec Ideal S8x2048x1024 .f32) (G : FVec Ideal S1x1024 .f32) (W : FVec Ideal S1x1024x7168 .f32)

theorem rows_q0 : shapeCast S16384x512 (qOf X G W 0 slices_S8x2048x24x64_S8x2048x8x64_0_0_0_0) shapeCasts_S8x2048x8x64_S16384x512 = q0Arr X G W := by
  funext y
  obtain ⟨r, l, rfl⟩ : ∃ (r : Fin 16384) (l : Fin 512), y = ix2 r l := ⟨y 0, y 1, by funext t; fin_cases t <;> rfl⟩
  pointwise
  change _ = qSpec X G W 0 (by omega) r l
  exact query_apply X G W 0 (by omega) 0 _ _ rfl _ _ _ (by dsimp only; omega) _ _ _ (by dsimp only; omega)

theorem rows_q1 : shapeCast S4096x2048 (qOf X G W 8 slices_S8x2048x24x64_S8x2048x8x64_0_0_8_0) shapeCasts_S8x2048x8x64_S4096x2048 = q1Arr X G W := by
  funext y
  obtain ⟨r, l, rfl⟩ : ∃ (r : Fin 4096) (l : Fin 2048), y = ix2 r l := ⟨y 0, y 1, by funext t; fin_cases t <;> rfl⟩
  pointwise
  change _ = qSpec X G W 1 (by omega) ⟨4 * r.val + l.val / 512, by omega⟩ ⟨l.val % 512, by omega⟩
  exact query_apply X G W 1 (by omega) 8 _ _ rfl _ _ _ (by dsimp only; omega) _ _ _ (by dsimp only; omega)

theorem rows_q2 : shapeCast S1024x8192 (qOf X G W 16 slices_S8x2048x24x64_S8x2048x8x64_0_0_16_0) shapeCasts_S8x2048x8x64_S1024x8192 = q2Arr X G W := by
  funext y
  obtain ⟨r, l, rfl⟩ : ∃ (r : Fin 1024) (l : Fin 8192), y = ix2 r l := ⟨y 0, y 1, by funext t; fin_cases t <;> rfl⟩
  pointwise
  change _ = qSpec X G W 2 (by omega) ⟨16 * r.val + l.val / 512, by omega⟩ ⟨l.val % 512, by omega⟩
  exact query_apply X G W 2 (by omega) 16 _ _ rfl _ _ _ (by dsimp only; omega) _ _ _ (by dsimp only; omega)

theorem rows_kv0 : shapeCast S16384x1024 (truncf .bf16 (kvOf X G W 0 slices_S8x2048x24x64_S8x2048x8x64_0_0_0_0) bitsLt_bf16_f32)
    shapeCasts_S8x2048x2x8x64_S16384x1024 = kv0Arr X G W := by
  funext y
  obtain ⟨r, l, rfl⟩ : ∃ (r : Fin 16384) (l : Fin 1024), y = ix2 r l := ⟨y 0, y 1, by funext t; fin_cases t <;> rfl⟩
  pointwise
  change _ = kvSpec X G W 0 (by omega) r l
  exact kv_apply X G W 0 (by omega) 0 _ _ _ rfl _ _ _ (by dsimp only; omega) _ _ _ _ (by dsimp only; omega)

theorem rows_kv1 : shapeCast S4096x4096 (truncf .bf16 (kvOf X G W 8 slices_S8x2048x24x64_S8x2048x8x64_0_0_8_0) bitsLt_bf16_f32)
    shapeCasts_S8x2048x2x8x64_S4096x4096 = kv1Arr X G W := by
  funext y
  obtain ⟨r, l, rfl⟩ : ∃ (r : Fin 4096) (l : Fin 4096), y = ix2 r l := ⟨y 0, y 1, by funext t; fin_cases t <;> rfl⟩
  pointwise
  change _ = kvSpec X G W 1 (by omega) ⟨4 * r.val + l.val / 1024, by omega⟩ ⟨l.val % 1024, by omega⟩
  exact kv_apply X G W 1 (by omega) 8 _ _ _ rfl _ _ _ (by dsimp only; omega) _ _ _ _ (by dsimp only; omega)

theorem rows_kv2 : shapeCast S1024x16384 (truncf .bf16 (kvOf X G W 16 slices_S8x2048x24x64_S8x2048x8x64_0_0_16_0) bitsLt_bf16_f32)
    shapeCasts_S8x2048x2x8x64_S1024x16384 = kv2Arr X G W := by
  funext y
  obtain ⟨r, l, rfl⟩ : ∃ (r : Fin 1024) (l : Fin 16384), y = ix2 r l := ⟨y 0, y 1, by funext t; fin_cases t <;> rfl⟩
  pointwise
  change _ = kvSpec X G W 2 (by omega) ⟨16 * r.val + l.val / 1024, by omega⟩ ⟨l.val % 1024, by omega⟩
  exact kv_apply X G W 2 (by omega) 16 _ _ _ rfl _ _ _ (by dsimp only; omega) _ _ _ _ (by dsimp only; omega)

theorem kt_read (V : FVec Ideal S8x2048x2x512 .f32) (b : Fin 8) (s : Fin 2) (l : Fin 512) (t : Fin 2048) :
    transpose S8x2x512x2048 [0, 2, 3, 1] V transposes_S8x2048x2x512_S8x2x512x2048_0_2_3_1 (ix4 b s l t) = V (ix4 b t s l) := by
  pointwise

theorem kt_cast (V : FVec Ideal S8x2048x2x8x64 .f32) (b : Fin 8) (s : Fin 2) (l : Fin 512) (t : Fin 2048) :
    shapeCast S8x2048x2x512 V shapeCasts_S8x2048x2x8x64_S8x2048x2x512 (ix4 b t s l)
      = V (ix5 b t s ⟨l.val / 64, by omega⟩ ⟨l.val % 64, by omega⟩) := by
  pointwise

theorem rows_kt : transpose S8x2x512x2048 [0, 2, 3, 1] (shapeCast S8x2048x2x512
    (kvOf X G W 16 slices_S8x2048x24x64_S8x2048x8x64_0_0_16_0) shapeCasts_S8x2048x2x8x64_S8x2048x2x512)
    transposes_S8x2048x2x512_S8x2x512x2048_0_2_3_1 = ktArr X G W := by
  funext y
  obtain ⟨b, s, l, t, rfl⟩ : ∃ (b : Fin 8) (s : Fin 2) (l : Fin 512) (t : Fin 2048), y = ix4 b s l t :=
    ⟨y 0, y 1, y 2, y 3, by funext t; fin_cases t <;> rfl⟩
  rw [kt_read, kt_cast]
  exact kv_apply X G W 2 (by omega) 16 _ _ _ rfl ⟨2048 * b.val + t.val, by omega⟩ b t rfl s _ _ ⟨512 * s.val + l.val, by omega⟩ (by dsimp only; omega)

/-- The recurrence's input, -/
theorem rows_u : shapeCast S16384x512 (extractStridedSlice S8x2048x512 ![0, 0, 4608] (wide X G W) slices_S8x2048x7168_S8x2048x512_0_0_4608)
      shapeCasts_S8x2048x512_S16384x512 = uArr X G W := by
  funext y
  obtain ⟨r, l, rfl⟩ : ∃ (r : Fin 16384) (l : Fin 512), y = ix2 r l := ⟨y 0, y 1, by funext t; fin_cases t <;> rfl⟩
  pointwise
  change _ = prj X G W r ⟨4608 + l.val, by omega⟩
  exact wide_apply X G W _ _ _ (by dsimp only; omega) _

/-- and the gates. -/
theorem rows_gate : shapeCast S16384x2048 (extractStridedSlice S8x2048x2048 ![0, 0, 5120] (wide X G W) slices_S8x2048x7168_S8x2048x2048_0_0_5120)
      shapeCasts_S8x2048x2048_S16384x2048 = gateArr X G W := by
  funext y
  obtain ⟨r, l, rfl⟩ : ∃ (r : Fin 16384) (l : Fin 2048), y = ix2 r l := ⟨y 0, y 1, by funext t; fin_cases t <;> rfl⟩
  pointwise
  change _ = prj X G W r ⟨5120 + l.val, by omega⟩
  exact wide_apply X G W _ _ _ (by dsimp only; omega) _

end

end Cert.Reference2Ideal.Proj
end
-- ==== Proof.Proj.Join.lean ====
/- The in-projection's run and the plain one's end with the same arrays. -/
module
public import proofs.«01_k».proof.Proof.Proj.Final
public import proofs.«01_k».proof.Proof.Proj.Ref
public import proofs.«01_k».proof.Proof.Gen.Kernel2Ideal.Value
public import proofs.«01_k».proof.Defs
@[expose] public section
noncomputable section
namespace Cert.Proj
open Idealize.ShloMosaic Idealize.ShloMosaic.TcCoe Idealize.SL.Sem Cert.Kernel2Ideal.Proj Cert.Reference2Ideal.Proj

section
variable (m : (ℓ : Loc Cert.Kernel2Ideal.nD Cert.Kernel2Ideal.τ Cert.Kernel2Ideal.sig) → Buf (Elt Ideal) ℓ) (c : Dev Cert.Kernel2Ideal.nD)
abbrev kX : FVec Ideal SX .f32 := m ((c.tc : Thread Cert.Kernel2Ideal.nD Cert.Kernel2Ideal.τ).loc Cert.Kernel2Ideal.main_arg0)
abbrev kG : FVec Ideal SG .f32 := m ((c.tc : Thread Cert.Kernel2Ideal.nD Cert.Kernel2Ideal.τ).loc Cert.Kernel2Ideal.main_arg1)
abbrev kW : FVec Ideal SW .f32 := m ((c.tc : Thread Cert.Kernel2Ideal.nD Cert.Kernel2Ideal.τ).loc Cert.Kernel2Ideal.main_arg2)
end

/-- From equal arguments the in-projection and the plain one end with the same nine arrays. -/
theorem agree : Cert.algebraic_Kernel2Ideal_Reference2Ideal := by
  intro m g m' g' hpre hagree
  have hX (c) : Cert.Reference2Ideal.Proj.argX m' c = kX m c := (hagree c).1
  have hG (c) : Cert.Reference2Ideal.Proj.argG m' c = kG m c := (hagree c).2.1
  have hW (c) : Cert.Reference2Ideal.Proj.argW m' c = kW m c := (hagree c).2.2
  have at_args {α : Type} (c) (f : FVec Ideal SX .f32 → FVec Ideal SG .f32 → FVec Ideal SW .f32 → α) :
      f (Cert.Reference2Ideal.Proj.argX m' c) (Cert.Reference2Ideal.Proj.argG m' c) (Cert.Reference2Ideal.Proj.argW m' c) = f (kX m c) (kG m c) (kW m c) := by
    rw [hX, hG, hW]
  refine ⟨fun c => q0Arr (kX m c) (kG m c) (kW m c), fun c => q1Arr (kX m c) (kG m c) (kW m c), fun c => q2Arr (kX m c) (kG m c) (kW m c),
    fun c => kv0Arr (kX m c) (kG m c) (kW m c), fun c => kv1Arr (kX m c) (kG m c) (kW m c), fun c => kv2Arr (kX m c) (kG m c) (kW m c),
    fun c => ktArr (kX m c) (kG m c) (kW m c), fun c => uArr (kX m c) (kG m c) (kW m c), fun c => gateArr (kX m c) (kG m c) (kW m c), ?_, ?_⟩
  · refine (θ_run Cert.Kernel2Ideal.defs _ _).mono (fun _ h c => ?_) (Cert.Kernel2Ideal.Value.run_blocks (F := Ideal) m g)
    obtain ⟨h0, h1, h2, h3, h4, h5, h6, h7, h8, hargs⟩ := h c
    exact ⟨h0.trans (final8 m c), h1.trans (final9 m c), h2.trans (final10 m c), h3.trans (final11 m c), h4.trans (final12 m c),
      h5.trans (final13 m c), h6.trans (final14 m c), h7.trans (final15 m c), h8.trans (final16 m c), hargs⟩
  · refine (θ_run Cert.Reference2Ideal.defs _ _).mono (fun _ h c => ?_) (Cert.Reference2Ideal.Value.run (F := Ideal) m' g')
    obtain ⟨h0, h1, h2, h3, h4, h5, h6, h7, h8, hargs⟩ := h c
    exact ⟨h0.trans (((named_q0 m' c).trans (rows_q0 _ _ _)).trans (at_args c q0Arr)),
      h1.trans (((named_q1 m' c).trans (rows_q1 _ _ _)).trans (at_args c q1Arr)),
      h2.trans (((named_q2 m' c).trans (rows_q2 _ _ _)).trans (at_args c q2Arr)),
      h3.trans (((named_kv0 m' c).trans (rows_kv0 _ _ _)).trans (at_args c kv0Arr)),
      h4.trans (((named_kv1 m' c).trans (rows_kv1 _ _ _)).trans (at_args c kv1Arr)),
      h5.trans (((named_kv2 m' c).trans (rows_kv2 _ _ _)).trans (at_args c kv2Arr)),
      h6.trans (((named_kt m' c).trans (rows_kt _ _ _)).trans (at_args c ktArr)),
      h7.trans ((rows_u (Cert.Reference2Ideal.Proj.argX m' c) (Cert.Reference2Ideal.Proj.argG m' c) (Cert.Reference2Ideal.Proj.argW m' c)).trans (at_args c uArr)),
      h8.trans ((rows_gate (Cert.Reference2Ideal.Proj.argX m' c) (Cert.Reference2Ideal.Proj.argG m' c) (Cert.Reference2Ideal.Proj.argW m' c)).trans (at_args c gateArr)),
      hargs⟩

end Cert.Proj
end
-- ==== Proof.Tail.Spec.lean ====
/- The keys and values of a group at the last positions of every sequence, positions last, by the in-projection's formulas; and
   what a tile of `T` tokens contributes to them. -/
module
public import proofs.«01_k».proof.Proof.Proj.Rows
public import Idealize.ShloMosaic.Lib.Pipeline.Value
@[expose] public section
noncomputable section
namespace Cert.Tail
open Idealize.ShloMosaic Idealize.ShloMosaic.TcCoe Idealize.SL.Sem Cert.Proj

/-- Keys and values by sequence, column and position. -/
abbrev ByColumn (b s T : ℕ) : Shape := ⟨4, ![b, s, 512, T]⟩

section
variable (X : FVec Ideal SX .f32) (G : FVec Ideal SG .f32) (W : FVec Ideal SW .f32)

/-- The last `keep` positions of group `g`. -/
def lastArr (g : ℕ) (hg : g < 3) (keep : ℕ) (hk : keep ≤ 2048) : FVec Ideal (ByColumn 8 2 keep) .f32 := fun y =>
  have h0 : (y 0).val < 8 := (y 0).isLt
  have h1 : (y 1).val < 2 := (y 1).isLt
  have h2 : (y 2).val < 512 := (y 2).isLt
  have h3 : (y 3).val < keep := (y 3).isLt
  kvSpec X G W g hg ⟨2048 * (y 0).val + (2048 - keep) + (y 3).val, by omega⟩ ⟨512 * (y 1).val + (y 2).val, by omega⟩

/-- A column of group `g`'s keys, from the products with its columns, or of its values. -/
theorem kv_of (g : ℕ) (hg : g < 3) (n : Fin 16384) (pk pv : Fin 512 → EReal) (co si : Fin 8 → EReal)
    (hk : ∀ c, pk c = prj X G W n ⟨1536 + 512 * g + c.val, by omega⟩) (hv : ∀ c, pv c = prj X G W n ⟨3072 + 512 * g + c.val, by omega⟩)
    (hc : ∀ i, co i = Ideal.cos (angle (posOf n) i)) (hs : ∀ i, si i = Ideal.sin (angle (posOf n) i)) (s : Fin 2) (c : Fin 512) :
    (if s.val = 0 then turnCol pk co si c else pv c) = kvSpec X G W g hg n ⟨512 * s.val + c.val, by omega⟩ := by
  unfold kvSpec
  split
  · rw [if_pos (by dsimp only; omega), turnCol_eq X G W n (1536 + 512 * g) (by omega) (by omega) pk co si hk hc hs c]
    exact congrArg (rope X G W n) (Fin.ext (by dsimp only; omega))
  · rw [if_neg (by dsimp only; omega), hv]
    exact congrArg (prj X G W n) (Fin.ext (by dsimp only; omega))

/-- A normed row's product with a column of the weights. -/
theorem prj_of (n : Fin 16384) (l : Fin 7168) (x w : Fin 1024 → EReal) (hx : ∀ k, x k = normRow X G n k) (hw : ∀ k, w k = W (ix3 0 k l)) :
    ∑ k : Fin 1024, w k * x k = prj X G W n l := by
  unfold prj
  exact Finset.sum_congr rfl fun k _ => by rw [hx, hw, mul_comm]
end

/-- A block of keys and a block of values stored beside each other. -/
theorem stored {T : ℕ} (K V : Vec Ideal (ByColumn 1 1 T) .f32)
    (hK : ∀ a, (![0, 0, 0, 0] : Fin 4 → ℕ) a + (ByColumn 1 1 T).size a ≤ (ByColumn 1 2 T).size a)
    (hV : ∀ a, (![0, 1, 0, 0] : Fin 4 → ℕ) a + (ByColumn 1 1 T).size a ≤ (ByColumn 1 2 T).size a)
    (k v : Fin 512 → Fin T → EReal) (ek : ∀ c t, K (ix4 0 0 c t) = k c t) (ev : ∀ c t, V (ix4 0 0 c t) = v c t)
    (y : (ByColumn 1 2 T).Idx)
    (hy : ∃ p ∈ ([⟨Rect.unit (s := ByColumn 1 2 T) ![0, 1, 0, 0] (ByColumn 1 1 T).size hV, V⟩,
      ⟨Rect.unit (s := ByColumn 1 2 T) ![0, 0, 0, 0] (ByColumn 1 1 T).size hK, K⟩] : List (View.Piece (Elt Ideal) (ByColumn 1 2 T) .f32)), y ∈ p.1.set) :
    View.canon ([⟨Rect.unit (s := ByColumn 1 2 T) ![0, 1, 0, 0] (ByColumn 1 1 T).size hV, V⟩,
      ⟨Rect.unit (s := ByColumn 1 2 T) ![0, 0, 0, 0] (ByColumn 1 1 T).size hK, K⟩] : List (View.Piece (Elt Ideal) (ByColumn 1 2 T) .f32)) y = if (y 1).val = 0 then k (y 2) (y 3) else v (y 2) (y 3) := by
  have one (x : (ByColumn 1 1 T).Idx) : ∃ (c : Fin 512) (t : Fin T), x = ix4 0 0 c t := ⟨x 2, x 3, by
    funext a; fin_cases a
    · exact Subsingleton.elim (α := Fin 1) _ _
    · exact Subsingleton.elim (α := Fin 1) _ _
    · rfl
    · rfl⟩
  refine View.canon_apply_of_pieces (Val := Elt Ideal) (S := ByColumn 1 2 T) (e := .f32)
    (fun y => if (y 1).val = 0 then k (y 2) (y 3) else v (y 2) (y 3)) _ (fun p hp x => ?_) y hy
  rcases List.mem_cons.mp hp with rfl | hp
  · obtain ⟨c, t, rfl⟩ := one x
    refine (ev c t).trans ?_
    rw [if_neg (by show ¬ (1 + 1 * 0 : ℕ) = 0; omega)]
    refine congrArg₂ v (Fin.ext ?_) (Fin.ext ?_)
    · show c.val = 0 + 1 * c.val; omega
    · show t.val = 0 + 1 * t.val; omega
  · obtain rfl := List.mem_singleton.mp hp
    obtain ⟨c, t, rfl⟩ := one x
    refine (ek c t).trans ?_
    rw [if_pos (by show (0 + 1 * 0 : ℕ) = 0; omega)]
    refine congrArg₂ k (Fin.ext ?_) (Fin.ext ?_)
    · show c.val = 0 + 1 * c.val; omega
    · show t.val = 0 + 1 * t.val; omega

end Cert.Tail
end
-- ==== Proof.Tail.Group0.lean ====
/- The keys and values of the last 128 positions, group 0: the arrays the call leaves. -/
module
public import proofs.«01_k».proof.Proof.Tail.Spec
public import proofs.«01_k».proof.Proof.Proj.Host
public import proofs.«01_k».proof.Proof.Gen.Kernel3Ideal.Value
public import Idealize.ShloMosaic.Lib.Pipeline.ValueKit.Point
@[expose] public section
set_option maxRecDepth 65536
noncomputable section
namespace Cert.Kernel3Ideal.Tail
open Cert.Kernel3Ideal Cert.Kernel3Ideal.Gen Idealize.ShloMosaic Idealize.ShloMosaic.TcCoe Idealize.SL.Sem Cert.Proj Cert.Tail

section Body
variable (x0 : Vec Ideal S128x1024 .f32) (x1 : Vec Ideal S1x1024 .f32) (x2 x3 : Vec Ideal S1x512x1024 .bf16) (x4 x5 : Vec Ideal S8x128 .f32)

theorem normed_apply (r : Fin 128) (k : Fin 1024) :
    k0_pay3 x0 x1 (ix2 r k) = x0 (ix2 r k) * Ideal.rsqrt (Ideal.div (∑ j, x0 (ix2 r j) * x0 (ix2 r j))
      (Ideal.ofBits .f32 1149239296#32) + Ideal.ofBits .f32 897988541#32) * x1 (ix2 0 k) := by
  pointwise [k0_pay3]

theorem keys_apply (c : Fin 512) (t : Fin 128) :
    k0_pay6 x0 x1 x2 (ix2 c t) = ∑ k : Fin 1024, x2 (ix3 0 c k) * k0_pay3 x0 x1 (ix2 t k) := by
  pointwise [k0_pay6]

theorem values_apply (xn : FVec Ideal S128x1024 .bf16) (c : Fin 512) (t : Fin 128) :
    k0_pay2 xn x3 (ix4 0 0 c t) = ∑ k : Fin 1024, x3 (ix3 0 c k) * xn (ix2 t k) := by
  pointwise [k0_pay2]

theorem first_apply (P : FVec Ideal S512x128 .f32) (c : Fin 512) (t : Fin 128) : k0_pay1 P (ix4 0 0 c t) = P (ix2 c t) := by
  pointwise [k0_pay1]

/-- The stored keys are the turned products. -/
theorem turned_eq : k0_pay18 (k0_pay4 x4) (k0_pay5 x5) (k0_pay6 x0 x1 x2) (k0_pay9 x0 x1 x2 x4 x5) (k0_pay10 x0 x1 x2 x4 x5) (k0_pay11 x0 x1 x2)
    (k0_pay14 x0 x1 x2 x4 x5) (k0_pay15 x0 x1 x2 x4 x5) (k0_pay16 x0 x1 x2) (k0_pay17 x0 x1 x2)
    = turnedRows (T := 128) (k0_pay4 x4) (k0_pay5 x5) (k0_pay6 x0 x1 x2) := rfl

theorem table4 (i : Fin 8) (t : Fin 128) : k0_pay4 x4 (ix2 i t) = x4 (ix2 i t) := by
  pointwise [k0_pay4]

theorem table5 (i : Fin 8) (t : Fin 128) : k0_pay5 x5 (ix2 i t) = x5 (ix2 i t) := by
  pointwise [k0_pay5]

/-- What the body leaves. -/
theorem out_apply (y : S1x2x512x128.Idx) : out0_6 x0 x1 x2 x3 x4 x5 y = if (y 1).val = 0 then
      turnCol (fun c => ∑ k : Fin 1024, x2 (ix3 0 c k) * k0_pay3 x0 x1 (ix2 (y 3) k)) (fun i => x4 (ix2 i (y 3))) (fun i => x5 (ix2 i (y 3))) (y 2)
    else ∑ k : Fin 1024, x3 (ix3 0 (y 2) k) * k0_pay3 x0 x1 (ix2 (y 3) k) := by
  unfold out0_6
  have z2 : (![0, 0] : Fin 2 → ℕ) = fun _ => 0 := by decide
  have z3 : (![0, 0, 0] : Fin 3 → ℕ) = fun _ => 0 := by decide
  rw [show View.ld x0 r0_0 = x0 from View.ld_unit_zero z2 _ _, show View.ld x1 r0_1 = x1 from View.ld_unit_zero z2 _ _,
    show View.ld x2 r0_2 = x2 from View.ld_unit_zero z3 _ _, show View.ld x3 r0_2 = x3 from View.ld_unit_zero z3 _ _,
    show View.ld x4 r0_3 = x4 from View.ld_unit_zero z2 _ _, show View.ld x5 r0_3 = x5 from View.ld_unit_zero z2 _ _]
  refine stored (T := 128) _ _ _ _
    (fun c t => turnCol (fun c => ∑ k : Fin 1024, x2 (ix3 0 c k) * k0_pay3 x0 x1 (ix2 t k)) (fun i => x4 (ix2 i t)) (fun i => x5 (ix2 i t)) c)
    (fun c t => ∑ k : Fin 1024, x3 (ix3 0 c k) * k0_pay3 x0 x1 (ix2 t k)) (fun c t => ?_) (fun c t => values_apply x3 _ c t) y (cover0_6 _ _ y)
  rw [first_apply, turned_eq, turnedRows_apply]
  simp only [keys_apply, table4, table5]
end Body

variable (m : (ℓ : Loc nD τ sig) → Buf (Elt Ideal) ℓ) (c : Dev nD)

theorem idx0 : ∀ t : Fin cfg0.N, win0_0.index t = ![16 * t.val + 15, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 15] := (by decide +kernel : ∀ t : Fin grid0.N, _)
theorem idx5 : ∀ t : Fin cfg0.N, win0_5.index t = ![0, 15] := (by decide +kernel : ∀ t : Fin grid0.N, _)
theorem idx6 : ∀ t : Fin cfg0.N, win0_6.index t = ![t.val, 0, 0, 0] := (by decide +kernel : ∀ t : Fin grid0.N, _)

theorem V_cosT : V m c main_v17 = Host.cos Cert.Kernel2Ideal.Proj.angleCols := rfl
theorem V_sinT : V m c main_v18 = Host.sin Cert.Kernel2Ideal.Proj.angleCols := rfl

abbrev argX : FVec Ideal SX .f32 := m ((c.tc : Thread nD τ).loc main_arg0)
abbrev argG : FVec Ideal SG .f32 := m ((c.tc : Thread nD τ).loc main_arg1)
abbrev argW : FVec Ideal SW .f32 := m ((c.tc : Thread nD τ).loc main_arg2)

theorem x_read (t : Fin cfg0.N) (n : Fin 16384) (r : Fin 128) (k : Fin 1024) (hn : n.val = 128 * (16 * t.val + 15) + r.val) :
    iblk m c 0 t (ix2 r k) = tok (argX m c) n k := by
  blk_simp [iblk]
  entry_read
  pointwise
  unfold tok
  blk_ext [idx0 t]

theorem g_read (t : Fin cfg0.N) (k : Fin 1024) : iblk m c 1 t (ix2 0 k) = argG m c (ix2 0 k) := by
  blk_simp [iblk]
  entry_read
  pointwise
  blk_ext [idx1 t]

theorem wk_read (t : Fin cfg0.N) (l : Fin 512) (k : Fin 1024) :
    iblk m c 2 t (ix3 0 l k) = argW m c (ix3 0 k ⟨1536 + 512 * 0 + l.val, by omega⟩) := by
  blk_simp [iblk]
  entry_read
  pointwise
  blk_ext [idx2 t]

theorem wv_read (t : Fin cfg0.N) (l : Fin 512) (k : Fin 1024) :
    iblk m c 3 t (ix3 0 l k) = argW m c (ix3 0 k ⟨3072 + 512 * 0 + l.val, by omega⟩) := by
  blk_simp [iblk]
  entry_read
  pointwise
  blk_ext [idx3 t]

theorem cos_read (t : Fin cfg0.N) (p : Fin 2048) (i : Fin 8) (r : Fin 128) (hp : p.val = 128 * (15) + r.val) :
    iblk m c 4 t (ix2 i r) = Ideal.cos (angle p i) := by
  rw [← Cert.Kernel2Ideal.Proj.angleCols_apply]
  refine Eq.trans (b := Host.cos Cert.Kernel2Ideal.Proj.angleCols (ix2 i p)) ?_ (by pointwise)
  blk_simp [iblk]
  rw [V_cosT]
  blk_ext [idx4 t]

theorem sin_read (t : Fin cfg0.N) (p : Fin 2048) (i : Fin 8) (r : Fin 128) (hp : p.val = 128 * (15) + r.val) :
    iblk m c 5 t (ix2 i r) = Ideal.sin (angle p i) := by
  rw [← Cert.Kernel2Ideal.Proj.angleCols_apply]
  refine Eq.trans (b := Host.sin Cert.Kernel2Ideal.Proj.angleCols (ix2 i p)) ?_ (by pointwise)
  blk_simp [iblk]
  rw [V_sinT]
  blk_ext [idx5 t]

/-- A normed row of a block. -/
theorem row_read (t : Fin cfg0.N) (n : Fin 16384) (r : Fin 128) (hn : n.val = 128 * (16 * t.val + 15) + r.val) (k : Fin 1024) :
    k0_pay3 (iblk m c 0 t) (iblk m c 1 t) (ix2 r k) = normRow (argX m c) (argG m c) n k := by
  refine (normed_apply (iblk m c 0 t) (iblk m c 1 t) r k).trans ?_
  simp only [x_read m c t n r _ hn, g_read]
  rfl

/-- A block of the result. -/
theorem place (t : Fin cfg0.N) (y : S1x2x512x128.Idx) (e : S8x2x512x128.Idx) (e0 : (e 0).val = t.val) (e1 : (e 1).val = (y 1).val)
    (e2 : (e 2).val = (y 2).val) (e3 : (e 3).val = 128 * (0) + (y 3).val) :
    out0_6 (iblk m c 0 t) (iblk m c 1 t) (iblk m c 2 t) (iblk m c 3 t) (iblk m c 4 t) (iblk m c 5 t) y
      = lastArr (argX m c) (argG m c) (argW m c) 0 (by omega) 128 (by omega) e := by
  have h0 : (e 0).val < 8 := (e 0).isLt
  have h1 : (y 1).val < 2 := (y 1).isLt
  have h2 : (y 2).val < 512 := (y 2).isLt
  have h3 : (e 3).val < 128 := (e 3).isLt
  have hn : 2048 * (e 0).val + (2048 - 128) + (e 3).val = 128 * (16 * t.val + 15) + (y 3).val := by omega
  let n : Fin 16384 := ⟨2048 * (e 0).val + (2048 - 128) + (e 3).val, by omega⟩
  have hp : (posOf n).val = 128 * (15) + (y 3).val := by unfold posOf; dsimp only [n]; omega
  refine (out_apply _ _ _ _ _ _ y).trans ((kv_of (argX m c) (argG m c) (argW m c) 0 (by omega) n _ _ _ _
    (fun l => prj_of _ _ _ n _ _ _ (row_read m c t n (y 3) hn) (wk_read m c t l))
    (fun l => prj_of _ _ _ n _ _ _ (row_read m c t n (y 3) hn) (wv_read m c t l))
    (fun i => cos_read m c t (posOf n) i (y 3) hp) (fun i => sin_read m c t (posOf n) i (y 3) hp) (y 1) (y 2)).trans ?_)
  unfold lastArr
  exact congrArg (kvSpec _ _ _ _ _ n) (Fin.ext (by show 512 * (y 1).val + (y 2).val = 512 * (e 1).val + (e 2).val; omega))

/-- The array after the run. -/
theorem final : (dats m 0 c).arrAt 6 cfg0.N = lastArr (argX m c) (argG m c) (argW m c) 0 (by omega) 128 (by omega) := by
  refine (dats m 0 c).arrAt_eq_of_covers 6 _ (by decide +kernel) fun t hf y => ?_
  blk_simp
  rw [after0_6]
  exact place m c t _ _ (by blk_simp [idx6 t]) (by blk_simp [idx6 t]) (by blk_simp [idx6 t]) (by blk_simp [idx6 t]; omega)

end Cert.Kernel3Ideal.Tail
end
-- ==== Proof.Tail.Group1.lean ====
/- The keys and values of the last 512 positions, group 1: the arrays the call leaves. -/
module
public import proofs.«01_k».proof.Proof.Tail.Spec
public import proofs.«01_k».proof.Proof.Proj.Host
public import proofs.«01_k».proof.Proof.Gen.Kernel4Ideal.Value
public import Idealize.ShloMosaic.Lib.Pipeline.ValueKit.Point
@[expose] public section
set_option maxRecDepth 65536
noncomputable section
namespace Cert.Kernel4Ideal.Tail
open Cert.Kernel4Ideal Cert.Kernel4Ideal.Gen Idealize.ShloMosaic Idealize.ShloMosaic.TcCoe Idealize.SL.Sem Cert.Proj Cert.Tail

section Body
variable (x0 : Vec Ideal S256x1024 .f32) (x1 : Vec Ideal S1x1024 .f32) (x2 x3 : Vec Ideal S1x512x1024 .bf16) (x4 x5 : Vec Ideal S8x256 .f32)

theorem normed_apply (r : Fin 256) (k : Fin 1024) :
    k0_pay3 x0 x1 (ix2 r k) = x0 (ix2 r k) * Ideal.rsqrt (Ideal.div (∑ j, x0 (ix2 r j) * x0 (ix2 r j))
      (Ideal.ofBits .f32 1149239296#32) + Ideal.ofBits .f32 897988541#32) * x1 (ix2 0 k) := by
  pointwise [k0_pay3]

theorem keys_apply (c : Fin 512) (t : Fin 256) :
    k0_pay6 x0 x1 x2 (ix2 c t) = ∑ k : Fin 1024, x2 (ix3 0 c k) * k0_pay3 x0 x1 (ix2 t k) := by
  pointwise [k0_pay6]

theorem values_apply (xn : FVec Ideal S256x1024 .bf16) (c : Fin 512) (t : Fin 256) :
    k0_pay2 xn x3 (ix4 0 0 c t) = ∑ k : Fin 1024, x3 (ix3 0 c k) * xn (ix2 t k) := by
  pointwise [k0_pay2]

theorem first_apply (P : FVec Ideal S512x256 .f32) (c : Fin 512) (t : Fin 256) : k0_pay1 P (ix4 0 0 c t) = P (ix2 c t) := by
  pointwise [k0_pay1]

/-- The stored keys are the turned products. -/
theorem turned_eq : k0_pay18 (k0_pay4 x4) (k0_pay5 x5) (k0_pay6 x0 x1 x2) (k0_pay9 x0 x1 x2 x4 x5) (k0_pay10 x0 x1 x2 x4 x5) (k0_pay11 x0 x1 x2)
    (k0_pay14 x0 x1 x2 x4 x5) (k0_pay15 x0 x1 x2 x4 x5) (k0_pay16 x0 x1 x2) (k0_pay17 x0 x1 x2)
    = turnedRows (T := 256) (k0_pay4 x4) (k0_pay5 x5) (k0_pay6 x0 x1 x2) := rfl

theorem table4 (i : Fin 8) (t : Fin 256) : k0_pay4 x4 (ix2 i t) = x4 (ix2 i t) := by
  pointwise [k0_pay4]

theorem table5 (i : Fin 8) (t : Fin 256) : k0_pay5 x5 (ix2 i t) = x5 (ix2 i t) := by
  pointwise [k0_pay5]

/-- What the body leaves. -/
theorem out_apply (y : S1x2x512x256.Idx) : out0_6 x0 x1 x2 x3 x4 x5 y = if (y 1).val = 0 then
      turnCol (fun c => ∑ k : Fin 1024, x2 (ix3 0 c k) * k0_pay3 x0 x1 (ix2 (y 3) k)) (fun i => x4 (ix2 i (y 3))) (fun i => x5 (ix2 i (y 3))) (y 2)
    else ∑ k : Fin 1024, x3 (ix3 0 (y 2) k) * k0_pay3 x0 x1 (ix2 (y 3) k) := by
  unfold out0_6
  have z2 : (![0, 0] : Fin 2 → ℕ) = fun _ => 0 := by decide
  have z3 : (![0, 0, 0] : Fin 3 → ℕ) = fun _ => 0 := by decide
  rw [show View.ld x0 r0_0 = x0 from View.ld_unit_zero z2 _ _, show View.ld x1 r0_1 = x1 from View.ld_unit_zero z2 _ _,
    show View.ld x2 r0_2 = x2 from View.ld_unit_zero z3 _ _, show View.ld x3 r0_2 = x3 from View.ld_unit_zero z3 _ _,
    show View.ld x4 r0_3 = x4 from View.ld_unit_zero z2 _ _, show View.ld x5 r0_3 = x5 from View.ld_unit_zero z2 _ _]
  refine stored (T := 256) _ _ _ _
    (fun c t => turnCol (fun c => ∑ k : Fin 1024, x2 (ix3 0 c k) * k0_pay3 x0 x1 (ix2 t k)) (fun i => x4 (ix2 i t)) (fun i => x5 (ix2 i t)) c)
    (fun c t => ∑ k : Fin 1024, x3 (ix3 0 c k) * k0_pay3 x0 x1 (ix2 t k)) (fun c t => ?_) (fun c t => values_apply x3 _ c t) y (cover0_6 _ _ y)
  rw [first_apply, turned_eq, turnedRows_apply]
  simp only [keys_apply, table4, table5]
end Body

variable (m : (ℓ : Loc nD τ sig) → Buf (Elt Ideal) ℓ) (c : Dev nD)

theorem idx0 : ∀ t : Fin cfg0.N, win0_0.index t = ![t.val / 2 * 8 + 6 + t.val % 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![1, 0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![0, 6 + t.val % 2] := (by decide +kernel : ∀ t : Fin grid0.N, _)
theorem idx5 : ∀ t : Fin cfg0.N, win0_5.index t = ![0, 6 + t.val % 2] := (by decide +kernel : ∀ t : Fin grid0.N, _)
theorem idx6 : ∀ t : Fin cfg0.N, win0_6.index t = ![t.val / 2, 0, 0, t.val % 2] := (by decide +kernel : ∀ t : Fin grid0.N, _)

theorem V_cosT : V m c main_v17 = Host.cos Cert.Kernel2Ideal.Proj.angleCols := rfl
theorem V_sinT : V m c main_v18 = Host.sin Cert.Kernel2Ideal.Proj.angleCols := rfl

abbrev argX : FVec Ideal SX .f32 := m ((c.tc : Thread nD τ).loc main_arg0)
abbrev argG : FVec Ideal SG .f32 := m ((c.tc : Thread nD τ).loc main_arg1)
abbrev argW : FVec Ideal SW .f32 := m ((c.tc : Thread nD τ).loc main_arg2)

theorem x_read (t : Fin cfg0.N) (n : Fin 16384) (r : Fin 256) (k : Fin 1024) (hn : n.val = 256 * (t.val / 2 * 8 + 6 + t.val % 2) + r.val) :
    iblk m c 0 t (ix2 r k) = tok (argX m c) n k := by
  blk_simp [iblk]
  entry_read
  pointwise
  unfold tok
  blk_ext [idx0 t]

theorem g_read (t : Fin cfg0.N) (k : Fin 1024) : iblk m c 1 t (ix2 0 k) = argG m c (ix2 0 k) := by
  blk_simp [iblk]
  entry_read
  pointwise
  blk_ext [idx1 t]

theorem wk_read (t : Fin cfg0.N) (l : Fin 512) (k : Fin 1024) :
    iblk m c 2 t (ix3 0 l k) = argW m c (ix3 0 k ⟨1536 + 512 * 1 + l.val, by omega⟩) := by
  blk_simp [iblk]
  entry_read
  pointwise
  blk_ext [idx2 t]

theorem wv_read (t : Fin cfg0.N) (l : Fin 512) (k : Fin 1024) :
    iblk m c 3 t (ix3 0 l k) = argW m c (ix3 0 k ⟨3072 + 512 * 1 + l.val, by omega⟩) := by
  blk_simp [iblk]
  entry_read
  pointwise
  blk_ext [idx3 t]

theorem cos_read (t : Fin cfg0.N) (p : Fin 2048) (i : Fin 8) (r : Fin 256) (hp : p.val = 256 * (6 + t.val % 2) + r.val) :
    iblk m c 4 t (ix2 i r) = Ideal.cos (angle p i) := by
  rw [← Cert.Kernel2Ideal.Proj.angleCols_apply]
  refine Eq.trans (b := Host.cos Cert.Kernel2Ideal.Proj.angleCols (ix2 i p)) ?_ (by pointwise)
  blk_simp [iblk]
  rw [V_cosT]
  blk_ext [idx4 t]

theorem sin_read (t : Fin cfg0.N) (p : Fin 2048) (i : Fin 8) (r : Fin 256) (hp : p.val = 256 * (6 + t.val % 2) + r.val) :
    iblk m c 5 t (ix2 i r) = Ideal.sin (angle p i) := by
  rw [← Cert.Kernel2Ideal.Proj.angleCols_apply]
  refine Eq.trans (b := Host.sin Cert.Kernel2Ideal.Proj.angleCols (ix2 i p)) ?_ (by pointwise)
  blk_simp [iblk]
  rw [V_sinT]
  blk_ext [idx5 t]

/-- A normed row of a block. -/
theorem row_read (t : Fin cfg0.N) (n : Fin 16384) (r : Fin 256) (hn : n.val = 256 * (t.val / 2 * 8 + 6 + t.val % 2) + r.val) (k : Fin 1024) :
    k0_pay3 (iblk m c 0 t) (iblk m c 1 t) (ix2 r k) = normRow (argX m c) (argG m c) n k := by
  refine (normed_apply (iblk m c 0 t) (iblk m c 1 t) r k).trans ?_
  simp only [x_read m c t n r _ hn, g_read]
  rfl

/-- A block of the result. -/
theorem place (t : Fin cfg0.N) (y : S1x2x512x256.Idx) (e : S8x2x512x512.Idx) (e0 : (e 0).val = t.val / 2) (e1 : (e 1).val = (y 1).val)
    (e2 : (e 2).val = (y 2).val) (e3 : (e 3).val = 256 * (t.val % 2) + (y 3).val) :
    out0_6 (iblk m c 0 t) (iblk m c 1 t) (iblk m c 2 t) (iblk m c 3 t) (iblk m c 4 t) (iblk m c 5 t) y
      = lastArr (argX m c) (argG m c) (argW m c) 1 (by omega) 512 (by omega) e := by
  have h0 : (e 0).val < 8 := (e 0).isLt
  have h1 : (y 1).val < 2 := (y 1).isLt
  have h2 : (y 2).val < 512 := (y 2).isLt
  have h3 : (e 3).val < 512 := (e 3).isLt
  have hn : 2048 * (e 0).val + (2048 - 512) + (e 3).val = 256 * (t.val / 2 * 8 + 6 + t.val % 2) + (y 3).val := by omega
  let n : Fin 16384 := ⟨2048 * (e 0).val + (2048 - 512) + (e 3).val, by omega⟩
  have hp : (posOf n).val = 256 * (6 + t.val % 2) + (y 3).val := by unfold posOf; dsimp only [n]; omega
  refine (out_apply _ _ _ _ _ _ y).trans ((kv_of (argX m c) (argG m c) (argW m c) 1 (by omega) n _ _ _ _
    (fun l => prj_of _ _ _ n _ _ _ (row_read m c t n (y 3) hn) (wk_read m c t l))
    (fun l => prj_of _ _ _ n _ _ _ (row_read m c t n (y 3) hn) (wv_read m c t l))
    (fun i => cos_read m c t (posOf n) i (y 3) hp) (fun i => sin_read m c t (posOf n) i (y 3) hp) (y 1) (y 2)).trans ?_)
  unfold lastArr
  exact congrArg (kvSpec _ _ _ _ _ n) (Fin.ext (by show 512 * (y 1).val + (y 2).val = 512 * (e 1).val + (e 2).val; omega))

/-- The array after the run. -/
theorem final : (dats m 0 c).arrAt 6 cfg0.N = lastArr (argX m c) (argG m c) (argW m c) 1 (by omega) 512 (by omega) := by
  refine (dats m 0 c).arrAt_eq_of_covers 6 _ (by decide +kernel) fun t hf y => ?_
  blk_simp
  rw [after0_6]
  exact place m c t _ _ (by blk_simp [idx6 t]) (by blk_simp [idx6 t]) (by blk_simp [idx6 t]) (by blk_simp [idx6 t]; omega)

end Cert.Kernel4Ideal.Tail
end
-- ==== Proof.Tail.Ref.lean ====
/- The plain keys and values of the last positions, by the formulas. -/
module
public import proofs.«01_k».proof.Proof.Tail.Spec
public import proofs.«01_k».proof.Proof.Proj.Ref
public import proofs.«01_k».proof.Proof.Gen.Reference3Ideal.Run
public import proofs.«01_k».proof.Proof.Gen.Reference4Ideal.Run
@[expose] public section
noncomputable section
namespace Cert.Tail
open Idealize.ShloMosaic Idealize.ShloMosaic.TcCoe Idealize.SL.Sem Cert.Proj Cert.Reference2Ideal Cert.Reference2Ideal.Gen Cert.Reference2Ideal.Proj

/-- Keys and values by sequence, position and column. -/
abbrev ByPosition (T : ℕ) : Shape := ⟨4, ![8, T, 2, 512]⟩

section
variable (keep off : ℕ) (hs : (ByPosition 2048).Slices ![0, off, 0, 0] (ByPosition keep))
  (ht : (ByPosition keep).Transposes [0, 2, 3, 1] (ByColumn 8 2 keep)) (ho : off + keep = 2048)

/-- The positions from `off` on, positions last. -/
theorem last_read (V : FVec Ideal (ByPosition 2048) .f32) (b : Fin 8) (s : Fin 2) (l : Fin 512) (t : Fin keep) :
    transpose (ByColumn 8 2 keep) [0, 2, 3, 1] (extractStridedSlice (ByPosition keep) ![0, off, 0, 0] V hs) ht (ix4 b s l t)
      = V (ix4 b ⟨off + t.val, by omega⟩ s l) := by
  refine (transpose_apply _ _ ht (ix4 b s l t) (ix4 b t s l) fun a => by fin_cases a <;> rfl).trans ?_
  refine extractStridedSlice_apply _ V hs _ _ fun a => ?_
  fin_cases a
  · exact (Nat.zero_add b.val).symm
  · rfl
  · exact (Nat.zero_add s.val).symm
  · exact (Nat.zero_add l.val).symm

theorem last_rows (X : FVec Ideal SX .f32) (G : FVec Ideal SG .f32) (W : FVec Ideal SW .f32) (g : ℕ) (hg : g < 3) (o : ℕ)
    (hog : o = 8 * g) (h : S8x2048x24x64.Slices ![0, 0, o, 0] S8x2048x8x64) :
    transpose (ByColumn 8 2 keep) [0, 2, 3, 1] (extractStridedSlice (ByPosition keep) ![0, off, 0, 0]
      (shapeCast S8x2048x2x512 (kvOf X G W o h) shapeCasts_S8x2048x2x8x64_S8x2048x2x512) hs) ht = lastArr X G W g hg keep (by omega) := by
  funext y
  obtain ⟨b, s, l, t, rfl⟩ : ∃ (b : Fin 8) (s : Fin 2) (l : Fin 512) (t : Fin keep), y = ix4 b s l t :=
    ⟨y 0, y 1, y 2, y 3, by funext t; fin_cases t <;> rfl⟩
  rw [last_read keep off hs ht ho, kt_cast]
  exact kv_apply X G W g hg o h _ _ hog ⟨2048 * b.val + (2048 - keep) + t.val, by omega⟩ b ⟨off + t.val, by omega⟩
    (by dsimp only; omega) s _ _ ⟨512 * s.val + l.val, by omega⟩ (by dsimp only; omega)
end

/-- The first group's by the stages, -/
theorem named0 (m : (ℓ : Loc Reference3Ideal.nD Reference3Ideal.τ Reference3Ideal.sig) → Buf (Elt Ideal) ℓ) (c : Dev Reference3Ideal.nD) :
    Reference3Ideal.Value.res_out0 m c = transpose Reference3Ideal.S8x2x512x128 [0, 2, 3, 1] (extractStridedSlice Reference3Ideal.S8x128x2x512 ![0, 1920, 0, 0]
      (shapeCast S8x2048x2x512 (kvOf (m ((c.tc : Thread Reference3Ideal.nD Reference3Ideal.τ).loc Reference3Ideal.main_arg0)) (m ((c.tc : Thread Reference3Ideal.nD Reference3Ideal.τ).loc Reference3Ideal.main_arg1))
        (m ((c.tc : Thread Reference3Ideal.nD Reference3Ideal.τ).loc Reference3Ideal.main_arg2)) 0 slices_S8x2048x24x64_S8x2048x8x64_0_0_0_0) shapeCasts_S8x2048x2x8x64_S8x2048x2x512)
      Reference3Ideal.Gen.slices_S8x2048x2x512_S8x128x2x512_0_1920_0_0) Reference3Ideal.Gen.transposes_S8x128x2x512_S8x2x512x128_0_2_3_1 := by
  delta Reference3Ideal.Value.res_out0 Reference3Ideal.Value.res_main_v111
  refine congrArg (fun Z => transpose Reference3Ideal.S8x2x512x128 [0, 2, 3, 1] Z Reference3Ideal.Gen.transposes_S8x128x2x512_S8x2x512x128_0_2_3_1) ?_
  refine congrArg (fun Z : FVec Ideal S8x2048x2x512 .f32 =>
    extractStridedSlice Reference3Ideal.S8x128x2x512 ![0, 1920, 0, 0] Z Reference3Ideal.Gen.slices_S8x2048x2x512_S8x128x2x512_0_1920_0_0) ?_
  refine congrArg (fun Z : FVec Ideal S8x2048x2x8x64 .f32 => shapeCast S8x2048x2x512 Z shapeCasts_S8x2048x2x8x64_S8x2048x2x512) ?_
  unfold kvOf
  exact congrArg₂ beside (congrArg (group _ _) rfl) (congrArg (group _ _) rfl)

/-- and the second's. -/
theorem named1 (m : (ℓ : Loc Reference4Ideal.nD Reference4Ideal.τ Reference4Ideal.sig) → Buf (Elt Ideal) ℓ) (c : Dev Reference4Ideal.nD) :
    Reference4Ideal.Value.res_out0 m c = transpose Reference4Ideal.S8x2x512x512 [0, 2, 3, 1] (extractStridedSlice Reference4Ideal.S8x512x2x512 ![0, 1536, 0, 0]
      (shapeCast S8x2048x2x512 (kvOf (m ((c.tc : Thread Reference4Ideal.nD Reference4Ideal.τ).loc Reference4Ideal.main_arg0)) (m ((c.tc : Thread Reference4Ideal.nD Reference4Ideal.τ).loc Reference4Ideal.main_arg1))
        (m ((c.tc : Thread Reference4Ideal.nD Reference4Ideal.τ).loc Reference4Ideal.main_arg2)) 8 slices_S8x2048x24x64_S8x2048x8x64_0_0_8_0) shapeCasts_S8x2048x2x8x64_S8x2048x2x512)
      Reference4Ideal.Gen.slices_S8x2048x2x512_S8x512x2x512_0_1536_0_0) Reference4Ideal.Gen.transposes_S8x512x2x512_S8x2x512x512_0_2_3_1 := by
  delta Reference4Ideal.Value.res_out0 Reference4Ideal.Value.res_main_v111
  refine congrArg (fun Z => transpose Reference4Ideal.S8x2x512x512 [0, 2, 3, 1] Z Reference4Ideal.Gen.transposes_S8x512x2x512_S8x2x512x512_0_2_3_1) ?_
  refine congrArg (fun Z : FVec Ideal S8x2048x2x512 .f32 =>
    extractStridedSlice Reference4Ideal.S8x512x2x512 ![0, 1536, 0, 0] Z Reference4Ideal.Gen.slices_S8x2048x2x512_S8x512x2x512_0_1536_0_0) ?_
  refine congrArg (fun Z : FVec Ideal S8x2048x2x8x64 .f32 => shapeCast S8x2048x2x512 Z shapeCasts_S8x2048x2x8x64_S8x2048x2x512) ?_
  unfold kvOf
  exact congrArg₂ beside (congrArg (group _ _) rfl) (congrArg (group _ _) rfl)

end Cert.Tail
end
-- ==== Proof.Tail.Join.lean ====
/- The calls' runs and the plain ones' end with the same arrays. -/
module
public import proofs.«01_k».proof.Proof.Tail.Group0
public import proofs.«01_k».proof.Proof.Tail.Group1
public import proofs.«01_k».proof.Proof.Tail.Ref
public import proofs.«01_k».proof.Defs
@[expose] public section
noncomputable section
namespace Cert.Tail
open Idealize.ShloMosaic Idealize.ShloMosaic.TcCoe Idealize.SL.Sem Cert.Proj

/-- The first group's keys and values of the last positions, -/
theorem agree0 : Cert.algebraic_Kernel3Ideal_Reference3Ideal := by
  intro m g m' g' hpre hagree
  refine ⟨fun c => lastArr (Kernel3Ideal.Tail.argX m c) (Kernel3Ideal.Tail.argG m c) (Kernel3Ideal.Tail.argW m c) 0 (by omega) 128 (by omega), ?_, ?_⟩
  · exact (θ_run Kernel3Ideal.defs _ _).mono (fun _ h c => ⟨(h c).1.trans (Kernel3Ideal.Tail.final m c), (h c).2⟩)
      (Kernel3Ideal.Value.run_blocks (F := Ideal) m g)
  · refine (θ_run Reference3Ideal.defs _ _).mono (fun _ h c => ⟨(h c).1.trans ((named0 m' c).trans
      ((last_rows 128 1920 _ _ rfl _ _ _ 0 (by omega) 0 rfl _).trans ?_)), (h c).2⟩)
      (Reference3Ideal.Value.run (F := Ideal) m' g')
    rw [(hagree c).1, (hagree c).2.1, (hagree c).2.2]

/-- and the second's. -/
theorem agree1 : Cert.algebraic_Kernel4Ideal_Reference4Ideal := by
  intro m g m' g' hpre hagree
  refine ⟨fun c => lastArr (Kernel4Ideal.Tail.argX m c) (Kernel4Ideal.Tail.argG m c) (Kernel4Ideal.Tail.argW m c) 1 (by omega) 512 (by omega), ?_, ?_⟩
  · exact (θ_run Kernel4Ideal.defs _ _).mono (fun _ h c => ⟨(h c).1.trans (Kernel4Ideal.Tail.final m c), (h c).2⟩)
      (Kernel4Ideal.Value.run_blocks (F := Ideal) m g)
  · refine (θ_run Reference4Ideal.defs _ _).mono (fun _ h c => ⟨(h c).1.trans ((named1 m' c).trans
      ((last_rows 512 1536 _ _ rfl _ _ _ 1 (by omega) 8 rfl _).trans ?_)), (h c).2⟩)
      (Reference4Ideal.Value.run (F := Ideal) m' g')
    rw [(hagree c).1, (hagree c).2.1, (hagree c).2.2]

end Cert.Tail
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Attn.Join
public import proofs.«01_k».proof.Proof.Proj.Join
public import proofs.«01_k».proof.Proof.Tail.Join
public import Idealize.ShloMosaic.Adequacy
public import Idealize.ShloMosaic.Init

@[expose] public section

noncomputable section

namespace Cert.Proof

open Idealize.ShloMosaic Idealize.SL.Sem Cert.Kernel

/-- The reference runs, leaves its arguments as they were and every semaphore counter at zero: it has no semaphore at
    all, and its run is the generated one with the results forgotten. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- So does the plain in-projection. -/
theorem projection_frame : Cert.quiescent_Reference2Ideal := fun m ρ _ =>
  (θ_run Cert.Reference2Ideal.defs _ _).mono
    (fun r h => ⟨fun c => (h c).2.2.2.2.2.2.2.2.2, Idealize.ShloMosaic.sem_eq_zero_of_no_sems (by decide) r.2⟩)
    (Cert.Reference2Ideal.Value.run (F := Ideal) m ρ)

/-- So do the plain keys and values of the last positions, of the first group -/
theorem last0_frame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- and of the second. -/
theorem last1_frame : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The frames of the kernels and of their references, and the equality of their results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    projection_frame,
    fun m ρ _ => Cert.Kernel3.Gen.frame m ρ,
    fun m ρ _ => Cert.Kernel3Ideal.Gen.frame m ρ,
    last0_frame,
    fun m ρ _ => Cert.Kernel4.Gen.frame m ρ,
    fun m ρ _ => Cert.Kernel4Ideal.Gen.frame m ρ,
    last1_frame,
    trivial,
    Cert.Attn.agree,
    trivial,
    Cert.Proj.agree,
    trivial,
    Cert.Tail.agree0,
    trivial,
    Cert.Tail.agree1⟩

end Cert.Proof

end
